-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_inputs_full_mask [hPre_finite_inputs_full_mask : Cert.Pre_finite_inputs_full_mask.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_full_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_full_mask [hPre_finite_inputs_full_mask : Cert.Pre_finite_inputs_full_mask.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_full_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs_full_mask [hKernelIdeal : Cert.KernelIdeal.Facts] [hPre_finite_inputs_full_mask : Cert.Pre_finite_inputs_full_mask.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_full_mask m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs_full_mask [hReferenceIdeal : Cert.ReferenceIdeal.Facts] [hPre_finite_inputs_full_mask : Cert.Pre_finite_inputs_full_mask.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_full_mask m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def algebraic_KernelIdeal_ReferenceIdeal_pre_finite_inputs_full_mask [hKernelIdeal : Cert.KernelIdeal.Facts] [hReferenceIdeal : Cert.ReferenceIdeal.Facts] [hPre_finite_inputs_full_mask : Cert.Pre_finite_inputs_full_mask.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_full_mask m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernelIdeal : Cert.KernelIdeal.Facts) (hReferenceIdeal : Cert.ReferenceIdeal.Facts) (hPre_finite_inputs_full_mask : Cert.Pre_finite_inputs_full_mask.Facts),
    quiescent_KernelIdeal (hKernelIdeal := hKernelIdeal)
    ∧ quiescent_KernelIdeal_pre_finite_inputs_full_mask (hKernelIdeal := hKernelIdeal) (hPre_finite_inputs_full_mask := hPre_finite_inputs_full_mask)
    ∧ quiescent_ReferenceIdeal (hReferenceIdeal := hReferenceIdeal)
    ∧ quiescent_ReferenceIdeal_pre_finite_inputs_full_mask (hReferenceIdeal := hReferenceIdeal) (hPre_finite_inputs_full_mask := hPre_finite_inputs_full_mask)
    ∧ algebraic_KernelIdeal_ReferenceIdeal_pre_finite_inputs_full_mask (hKernelIdeal := hKernelIdeal) (hReferenceIdeal := hReferenceIdeal) (hPre_finite_inputs_full_mask := hPre_finite_inputs_full_mask)
-- ==== Pre_finite_inputs_full_mask.lean ====
abbrev S4x4096x2048 : Shape := ⟨3, ![4, 4096, 2048]⟩
abbrev S4x4096 : Shape := ⟨2, ![4, 4096]⟩
abbrev S1024x2048 : Shape := ⟨2, ![1024, 2048]⟩
abbrev S1024 : Shape := ⟨1, ![1024]⟩
abbrev S1x1024 : Shape := ⟨2, ![1, 1024]⟩
abbrev S1 : Shape := ⟨1, ![1]⟩
abbrev S_ : Shape := ⟨0, ![]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel
  bcast_S_S4x4096x2048 : S_.BroadcastsInDim S4x4096x2048 (![] : Fin 0 → Fin S4x4096x2048.rank)
  reducesTo_S4x4096x2048_S_d0_1_2 : S4x4096x2048.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x1024 .f32) (main_arg5 : FVec F S1 .f32) (main_v12 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_v17 : IVec S_ 1 := andi main_v12 main_v16
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : IVec S_ 1 := andi main_v17 main_v21
  let main_v23 : FVec F S1 .f32 := Host.absf main_arg5
  let main_cst_8 : FVec F S_ .f32 := constant S_ .f32 0x7F800000#32
  let main_v24 : FVec F S1 .f32 := broadcastInDim S1 ![] bcast_S_S1 main_cst_8
  let main_v25 : IVec S1 1 := cmpf .olt main_v23 main_v24
  let main_c_9 : IVec S_ 1 := constantI S_ 1 1#1
  let main_v26 : IVec S_ 1 := (fun x v => Host.reduce IntOp.andi x v reducesTo_S1_S_d0 h_S_) main_v25 main_c_9
  let main_v27 : IVec S_ 1 := andi main_v22 main_v26
  main_v27

def fn {F : FTy → Type} [FloatOps F] (main_arg0 : FVec F S4x4096x2048 .f32) (main_arg1 : IVec S4x4096 32) (main_arg2 : FVec F S1024x2048 .f32) (main_arg3 : FVec F S1024 .f32) (main_arg4 : FVec F S1x1024 .f32) (main_arg5 : FVec F S1 .f32) : IVec S_ 1 :=
  let main_c : IVec S_ 32 := constantI S_ 32 0#32
  let main_v0 : IVec S4x4096 32 := broadcastInDim S4x4096 ![] bcast_S_S4x4096 main_c
  let main_v1 : IVec S4x4096 1 := cmpi .ne main_arg1 main_v0
  let main_c_0 : IVec S_ 1 := constantI S_ 1 1#1
  let main_v2 : IVec S_ 1 := (fun x v => Host.reduce IntOp.andi x v reducesTo_S4x4096_S_d0_1 h_S_) main_v1 main_c_0
  let main_v3 : FVec F S4x4096x2048 .f32 := Host.absf main_arg0
  let main_cst : FVec F S_ .f32 := constant S_ .f32 0x7F800000#32
  let main_v4 : FVec F S4x4096x2048 .f32 := broadcastInDim S4x4096x2048 ![] bcast_S_S4x4096x2048 main_cst
  let main_v5 : IVec S4x4096x2048 1 := cmpf .olt main_v3 main_v4
  let main_c_1 : IVec S_ 1 := constantI S_ 1 1#1
  let main_v6 : IVec S_ 1 := (fun x v => Host.reduce IntOp.andi x v reducesTo_S4x4096x2048_S_d0_1_2 h_S_) main_v5 main_c_1
  let main_v7 : IVec S_ 1 := andi main_v2 main_v6
  let main_v8 : FVec F S1024x2048 .f32 := Host.absf main_arg2
  let main_cst_2 : FVec F S_ .f32 := constant S_ .f32 0x7F800000#32
  let main_v9 : FVec F S1024x2048 .f32 := broadcastInDim S1024x2048 ![] bcast_S_S1024x2048 main_cst_2
  let main_v10 : IVec S1024x2048 1 := cmpf .olt main_v8 main_v9
  let main_c_3 : IVec S_ 1 := constantI S_ 1 1#1
  let main_v11 : IVec S_ 1 := (fun x v => Host.reduce IntOp.andi x v reducesTo_S1024x2048_S_d0_1 h_S_) main_v10 main_c_3
  let main_v12 : IVec S_ 1 := andi main_v7 main_v11
  let main_v13 : FVec F S1024 .f32 := Host.absf main_arg3
  let main_cst_4 : FVec F S_ .f32 := constant S_ .f32 0x7F800000#32
  let main_v14 : FVec F S1024 .f32 := broadcastInDim S1024 ![] bcast_S_S1024 main_cst_4
  let main_v15 : IVec S1024 1 := cmpf .olt main_v13 main_v14
  let main_c_5 : IVec S_ 1 := constantI S_ 1 1#1
  fn_part1 (F := F) main_arg4 main_arg5 main_v12 main_v15 main_c_5
-- ==== KernelIdeal.lean ====
abbrev S4x4096x2048 : Shape := ⟨3, ![4, 4096, 2048]⟩
abbrev S4x4096 : Shape := ⟨2, ![4, 4096]⟩
abbrev S1024x2048 : Shape := ⟨2, ![1024, 2048]⟩
abbrev S1024 : Shape := ⟨1, ![1024]⟩
abbrev S1x1024 : Shape := ⟨2, ![1, 1024]⟩
abbrev S1 : Shape := ⟨1, ![1]⟩
abbrev S16384x2048 : Shape := ⟨2, ![16384, 2048]⟩
abbrev S_ : Shape := ⟨0, ![]⟩
abbrev S128x1024 : Shape := ⟨2, ![128, 1024]⟩
abbrev S16x1x1024 : Shape := ⟨3, ![16, 1, 1024]⟩
abbrev S1x1x1024 : Shape := ⟨3, ![1, 1, 1024]⟩
abbrev S1024x1024 : Shape := ⟨2, ![1024, 1024]⟩
abbrev S1024x128 : Shape := ⟨2, ![1024, 128]⟩
abbrev S1024x1 : Shape := ⟨2, ![1024, 1]⟩
abbrev S16384 : Shape := ⟨1, ![16384]⟩
abbrev S4096 : Shape := ⟨1, ![4096]⟩
abbrev S256 : Shape := ⟨1, ![256]⟩
abbrev S16 : Shape := ⟨1, ![16]⟩

abbrev nBuf : Table → Nat
  | .hbm => 18
  | .local .tc .vmem => 7
  | .local .scVector .vmem => 6
  | _ => 0

abbrev bufTy : (tb : Table) → Fin (nBuf tb) → BufTy
  | .hbm, ⟨0, _⟩ => ⟨S4x4096x2048, .f32⟩
  | .hbm, ⟨1, _⟩ => ⟨S4x4096, .i32⟩
  | .hbm, ⟨2, _⟩ => ⟨S1024x2048, .f32⟩
  | .hbm, ⟨3, _⟩ => ⟨S1024, .f32⟩
  | .hbm, ⟨4, _⟩ => ⟨S1x1024, .f32⟩
  | .hbm, ⟨5, _⟩ => ⟨S1, .f32⟩
  | .hbm, ⟨6, _⟩ => ⟨S16384x2048, .f32⟩
  | .hbm, ⟨7, _⟩ => ⟨S1x1024, .f32⟩
  | .hbm, ⟨8, _⟩ => ⟨S_, .i32⟩
  | .hbm, ⟨9, _⟩ => ⟨S_, .f32⟩
  | .hbm, ⟨10, _⟩ => ⟨S128x1024, .f32⟩
  | .hbm, ⟨11, _⟩ => ⟨S16x1x1024, .f32⟩
  | .hbm, ⟨12, _⟩ => ⟨S16384, .f32⟩
  | .hbm, ⟨13, _⟩ => ⟨S4x4096, .f32⟩
  | .hbm, ⟨14, _⟩ => ⟨S16384, .f32⟩
  | .hbm, ⟨15, _⟩ => ⟨S16384, .i32⟩
  | .hbm, ⟨16, _⟩ => ⟨S16384, .i32⟩
  | .hbm, ⟨17, _⟩ => ⟨S4x4096, .i32⟩
  | .local .tc .vmem, ⟨0, _⟩ => ⟨S1024x2048, .f32⟩
  | .local .tc .vmem, ⟨1, _⟩ => ⟨S1024x2048, .f32⟩
  | .local .tc .vmem, ⟨2, _⟩ => ⟨S1024x2048, .f32⟩
  | .local .tc .vmem, ⟨3, _⟩ => ⟨S1x1024, .f32⟩
  | .local .tc .vmem, ⟨4, _⟩ => ⟨S128x1024, .f32⟩
  | .local .tc .vmem, ⟨5, _⟩ => ⟨S1x1x1024, .f32⟩
  | .local .tc .vmem, ⟨6, _⟩ => ⟨S1x1x1024, .f32⟩
  | .local .scVector .vmem, ⟨0, _⟩ => ⟨S4096, .f32⟩
  | .local .scVector .vmem, ⟨1, _⟩ => ⟨S4096, .i32⟩
  | .local .scVector .vmem, ⟨2, _⟩ => ⟨S256, .f32⟩
  | .local .scVector .vmem, ⟨3, _⟩ => ⟨S4096, .i32⟩
  | .local .scVector .vmem, ⟨4, _⟩ => ⟨S16, .f32⟩
  | .local .scVector .vmem, ⟨5, _⟩ => ⟨S16, .i32⟩
  | _, _ => ⟨S4x4096x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v6_scv : Ref sig .scVector := ⟨.hbm, 14, rfl⟩
abbrev main_v7_scv : Ref sig .scVector := ⟨.hbm, 15, rfl⟩
abbrev main_v8_scv : Ref sig .scVector := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 1 := Scalar.cmpi .slt v1 c4_i32
  let v3 : BitVec 32 := Scalar.extui v2
  let c0_i32 : BitVec 32 := 0#32
  let v4 : BitVec 1 := Scalar.cmpi .ne v3 c0_i32
  v4

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v6 : BitVec 32 := Scalar.muli v1 c4096_i32
  ![v6.toNat]
@[reducible] def k1_t1_loop : Scf.Loop 32 :=
  let c0_i32_1 : BitVec 32 := 0#32
  let c256_i32 : BitVec 32 := 256#32
  let v7 : BitVec 32 := Scalar.addi c0_i32_1 c256_i32
  let c1_i32 : BitVec 32 := 1#32
  ⟨c0_i32_1, v7, c1_i32⟩
def k1_off2 (k1_t1 : Fin k1_t1_loop.trips) : Fin 1 → Nat :=
  let c0_i32_1 : BitVec 32 := 0#32
  let c1_i32 : BitVec 32 := 1#32
  let arg11 : BitVec 32 := Scf.iv c0_i32_1 c1_i32 k1_t1
  let c16_i32_14 : BitVec 32 := 16#32
  let v14 : BitVec 32 := Scalar.muli arg11 c16_i32_14
  let v15 : Index := Scalar.indexCast v14
  ![v15.toNat]

def k1_chk1 (i : grid1.Coords) (v27 : IVec S16 32) : Prop :=
  (∀ (k1_h1 : k1_cond1 i = 1#1), ∀ a x, ((![v27] : Fin 1 → IVec S16 32) a x).toNat < S16.size a)
theorem k1_idx1_inb : ∀ (i : grid1.Coords) (v27 : IVec S16 32) (k1_hw1 : k1_chk1 i v27), ∀ (k1_h1 : k1_cond1 i = 1#1), ∀ a x, ((![v27] : Fin 1 → IVec S16 32) a x).toNat < S16.size a := fun i v27 k1_hw1 k1_h1 => k1_hw1 k1_h1

def k1_chk2 (i : grid1.Coords) (v32 : IVec S16 32) : Prop :=
  (∀ (k1_h1 : k1_cond1 i = 1#1), ∀ a x, ((![v32] : Fin 1 → IVec S16 32) a x).toNat < S16.size a)
theorem k1_idx2_inb : ∀ (i : grid1.Coords) (v32 : IVec S16 32) (k1_hw2 : k1_chk2 i v32), ∀ (k1_h1 : k1_cond1 i = 1#1), ∀ a x, ((![v32] : Fin 1 → IVec S16 32) a x).toNat < S16.size a := fun i v32 k1_hw2 k1_h1 => k1_hw2 k1_h1

def k1_chk3 (i : grid1.Coords) (v37 : IVec S16 32) : Prop :=
  (∀ (k1_h1 : k1_cond1 i = 1#1), ∀ a x, ((![v37] : Fin 1 → IVec S16 32) a x).toNat < S16.size a)
theorem k1_idx3_inb : ∀ (i : grid1.Coords) (v37 : IVec S16 32) (k1_hw3 : k1_chk3 i v37), ∀ (k1_h1 : k1_cond1 i = 1#1), ∀ a x, ((![v37] : Fin 1 → IVec S16 32) a x).toNat < S16.size a := fun i v37 k1_hw3 k1_h1 => k1_hw3 k1_h1

def k1_chk4 (i : grid1.Coords) (v42 : IVec S16 32) : Prop :=
  (∀ (k1_h1 : k1_cond1 i = 1#1), ∀ a x, ((![v42] : Fin 1 → IVec S16 32) a x).toNat < S16.size a)
theorem k1_idx4_inb : ∀ (i : grid1.Coords) (v42 : IVec S16 32) (k1_hw4 : k1_chk4 i v42), ∀ (k1_h1 : k1_cond1 i = 1#1), ∀ a x, ((![v42] : Fin 1 → IVec S16 32) a x).toNat < S16.size a := fun i v42 k1_hw4 k1_h1 => k1_hw4 k1_h1

def k1_chk5 (i : grid1.Coords) (v48 : IVec S16 32) : Prop :=
  (∀ (k1_h1 : k1_cond1 i = 1#1), ∀ a x, ((![v48] : Fin 1 → IVec S16 32) a x).toNat < S256.size a)
theorem k1_idx5_inb : ∀ (i : grid1.Coords) (v48 : IVec S16 32) (k1_hw5 : k1_chk5 i v48), ∀ (k1_h1 : k1_cond1 i = 1#1), ∀ a x, ((![v48] : Fin 1 → IVec S16 32) a x).toNat < S256.size a := fun i v48 k1_hw5 k1_h1 => k1_hw5 k1_h1
@[reducible] def k1_t2_loop : Scf.Loop 32 :=
  let c0_i32_3 : BitVec 32 := 0#32
  let c16_i32 : BitVec 32 := 16#32
  let v9 : BitVec 32 := Scalar.addi c0_i32_3 c16_i32
  let c1_i32_4 : BitVec 32 := 1#32
  ⟨c0_i32_3, v9, c1_i32_4⟩
def k1_off3 (k1_t2 : Fin k1_t2_loop.trips) : Fin 1 → Nat :=
  let c0_i32_3 : BitVec 32 := 0#32
  let c1_i32_4 : BitVec 32 := 1#32
  let arg11 : BitVec 32 := Scf.iv c0_i32_3 c1_i32_4 k1_t2
  let c16_i32_14 : BitVec 32 := 16#32
  let v14 : BitVec 32 := Scalar.muli arg11 c16_i32_14
  let v15 : Index := Scalar.indexCast v14
  ![v15.toNat]

def k1_chk6 (i : grid1.Coords) (v19 : IVec S16 32) : Prop :=
  (∀ (k1_h1 : k1_cond1 i = 1#1), ∀ a x, ((![v19] : Fin 1 → IVec S16 32) a x).toNat < S16.size a)
theorem k1_idx6_inb : ∀ (i : grid1.Coords) (v19 : IVec S16 32) (k1_hw6 : k1_chk6 i v19), ∀ (k1_h1 : k1_cond1 i = 1#1), ∀ a x, ((![v19] : Fin 1 → IVec S16 32) a x).toNat < S16.size a := fun i v19 k1_hw6 k1_h1 => k1_hw6 k1_h1

def k1_chk7 (i : grid1.Coords) (v24 : IVec S16 32) : Prop :=
  (∀ (k1_h1 : k1_cond1 i = 1#1), ∀ a x, ((![v24] : Fin 1 → IVec S16 32) a x).toNat < S16.size a)
theorem k1_idx7_inb : ∀ (i : grid1.Coords) (v24 : IVec S16 32) (k1_hw7 : k1_chk7 i v24), ∀ (k1_h1 : k1_cond1 i = 1#1), ∀ a x, ((![v24] : Fin 1 → IVec S16 32) a x).toNat < S16.size a := fun i v24 k1_hw7 k1_h1 => k1_hw7 k1_h1

def k1_chk8 (i : grid1.Coords) (v29 : IVec S16 32) : Prop :=
  (∀ (k1_h1 : k1_cond1 i = 1#1), ∀ a x, ((![v29] : Fin 1 → IVec S16 32) a x).toNat < S16.size a)
theorem k1_idx8_inb : ∀ (i : grid1.Coords) (v29 : IVec S16 32) (k1_hw8 : k1_chk8 i v29), ∀ (k1_h1 : k1_cond1 i = 1#1), ∀ a x, ((![v29] : Fin 1 → IVec S16 32) a x).toNat < S16.size a := fun i v29 k1_hw8 k1_h1 => k1_hw8 k1_h1

def k1_chk9 (i : grid1.Coords) (v34 : IVec S16 32) : Prop :=
  (∀ (k1_h1 : k1_cond1 i = 1#1), ∀ a x, ((![v34] : Fin 1 → IVec S16 32) a x).toNat < S16.size a)
theorem k1_idx9_inb : ∀ (i : grid1.Coords) (v34 : IVec S16 32) (k1_hw9 : k1_chk9 i v34), ∀ (k1_h1 : k1_cond1 i = 1#1), ∀ a x, ((![v34] : Fin 1 → IVec S16 32) a x).toNat < S16.size a := fun i v34 k1_hw9 k1_h1 => k1_hw9 k1_h1
@[reducible] def k1_t3_loop : Scf.Loop 32 :=
  let c0_i32_6 : BitVec 32 := 0#32
  let c64_i32 : BitVec 32 := 64#32
  let v11 : BitVec 32 := Scalar.addi c0_i32_6 c64_i32
  let c1_i32_7 : BitVec 32 := 1#32
  ⟨c0_i32_6, v11, c1_i32_7⟩

def k1_chk10 (i : grid1.Coords) (v16 : IVec S16 32) : Prop :=
  (∀ (k1_h1 : k1_cond1 i = 1#1), ∀ a x, ((![v16] : Fin 1 → IVec S16 32) a x).toNat < S16.size a)
theorem k1_idx10_inb : ∀ (i : grid1.Coords) (v16 : IVec S16 32) (k1_hw10 : k1_chk10 i v16), ∀ (k1_h1 : k1_cond1 i = 1#1), ∀ a x, ((![v16] : Fin 1 → IVec S16 32) a x).toNat < S16.size a := fun i v16 k1_hw10 k1_h1 => k1_hw10 k1_h1

def k1_chk11 (i : grid1.Coords) (v21 : IVec S16 32) : Prop :=
  (∀ (k1_h1 : k1_cond1 i = 1#1), ∀ a x, ((![v21] : Fin 1 → IVec S16 32) a x).toNat < S16.size a)
theorem k1_idx11_inb : ∀ (i : grid1.Coords) (v21 : IVec S16 32) (k1_hw11 : k1_chk11 i v21), ∀ (k1_h1 : k1_cond1 i = 1#1), ∀ a x, ((![v21] : Fin 1 → IVec S16 32) a x).toNat < S16.size a := fun i v21 k1_hw11 k1_h1 => k1_hw11 k1_h1

def k1_chk12 (i : grid1.Coords) (v26 : IVec S16 32) : Prop :=
  (∀ (k1_h1 : k1_cond1 i = 1#1), ∀ a x, ((![v26] : Fin 1 → IVec S16 32) a x).toNat < S16.size a)
theorem k1_idx12_inb : ∀ (i : grid1.Coords) (v26 : IVec S16 32) (k1_hw12 : k1_chk12 i v26), ∀ (k1_h1 : k1_cond1 i = 1#1), ∀ a x, ((![v26] : Fin 1 → IVec S16 32) a x).toNat < S16.size a := fun i v26 k1_hw12 k1_h1 => k1_hw12 k1_h1

def k1_chk13 (i : grid1.Coords) (v31 : IVec S16 32) : Prop :=
  (∀ (k1_h1 : k1_cond1 i = 1#1), ∀ a x, ((![v31] : Fin 1 → IVec S16 32) a x).toNat < S16.size a)
theorem k1_idx13_inb : ∀ (i : grid1.Coords) (v31 : IVec S16 32) (k1_hw13 : k1_chk13 i v31), ∀ (k1_h1 : k1_cond1 i = 1#1), ∀ a x, ((![v31] : Fin 1 → IVec S16 32) a x).toNat < S16.size a := fun i v31 k1_hw13 k1_h1 => k1_hw13 k1_h1

def k1_chk14 (i : grid1.Coords) (v39 : IVec S16 32) : Prop :=
  (∀ (k1_h1 : k1_cond1 i = 1#1), ∀ a x, ((![v39] : Fin 1 → IVec S16 32) a x).toNat < S16.size a)
theorem k1_idx14_inb : ∀ (i : grid1.Coords) (v39 : IVec S16 32) (k1_hw14 : k1_chk14 i v39), ∀ (k1_h1 : k1_cond1 i = 1#1), ∀ a x, ((![v39] : Fin 1 → IVec S16 32) a x).toNat < S16.size a := fun i v39 k1_hw14 k1_h1 => k1_hw14 k1_h1

def k1_chk15 (i : grid1.Coords) (v44 : IVec S16 32) : Prop :=
  (∀ (k1_h1 : k1_cond1 i = 1#1), ∀ a x, ((![v44] : Fin 1 → IVec S16 32) a x).toNat < S16.size a)
theorem k1_idx15_inb : ∀ (i : grid1.Coords) (v44 : IVec S16 32) (k1_hw15 : k1_chk15 i v44), ∀ (k1_h1 : k1_cond1 i = 1#1), ∀ a x, ((![v44] : Fin 1 → IVec S16 32) a x).toNat < S16.size a := fun i v44 k1_hw15 k1_h1 => k1_hw15 k1_h1

def k1_chk16 (i : grid1.Coords) (v49 : IVec S16 32) : Prop :=
  (∀ (k1_h1 : k1_cond1 i = 1#1), ∀ a x, ((![v49] : Fin 1 → IVec S16 32) a x).toNat < S16.size a)
theorem k1_idx16_inb : ∀ (i : grid1.Coords) (v49 : IVec S16 32) (k1_hw16 : k1_chk16 i v49), ∀ (k1_h1 : k1_cond1 i = 1#1), ∀ a x, ((![v49] : Fin 1 → IVec S16 32) a x).toNat < S16.size a := fun i v49 k1_hw16 k1_h1 => k1_hw16 k1_h1

def k1_chk17 (i : grid1.Coords) (v54 : IVec S16 32) : Prop :=
  (∀ (k1_h1 : k1_cond1 i = 1#1), ∀ a x, ((![v54] : Fin 1 → IVec S16 32) a x).toNat < S16.size a)
theorem k1_idx17_inb : ∀ (i : grid1.Coords) (v54 : IVec S16 32) (k1_hw17 : k1_chk17 i v54), ∀ (k1_h1 : k1_cond1 i = 1#1), ∀ a x, ((![v54] : Fin 1 → IVec S16 32) a x).toNat < S16.size a := fun i v54 k1_hw17 k1_h1 => k1_hw17 k1_h1

def k1_chk19 (i : grid1.Coords) (v66 : IVec S16 32) : Prop :=
  (∀ (k1_h1 : k1_cond1 i = 1#1), ∀ a x, ((![v66] : Fin 1 → IVec S16 32) a x).toNat < S16.size a)
theorem k1_idx19_inb : ∀ (i : grid1.Coords) (v66 : IVec S16 32) (k1_hw19 : k1_chk19 i v66), ∀ (k1_h1 : k1_cond1 i = 1#1), ∀ a x, ((![v66] : Fin 1 → IVec S16 32) a x).toNat < S16.size a := fun i v66 k1_hw19 k1_h1 => k1_hw19 k1_h1

def k1_chk20 (i : grid1.Coords) (v71 : IVec S16 32) : Prop :=
  (∀ (k1_h1 : k1_cond1 i = 1#1), ∀ a x, ((![v71] : Fin 1 → IVec S16 32) a x).toNat < S16.size a)
theorem k1_idx20_inb : ∀ (i : grid1.Coords) (v71 : IVec S16 32) (k1_hw20 : k1_chk20 i v71), ∀ (k1_h1 : k1_cond1 i = 1#1), ∀ a x, ((![v71] : Fin 1 → IVec S16 32) a x).toNat < S16.size a := fun i v71 k1_hw20 k1_h1 => k1_hw20 k1_h1

def k1_chk21 (i : grid1.Coords) (v76 : IVec S16 32) : Prop :=
  (∀ (k1_h1 : k1_cond1 i = 1#1), ∀ a x, ((![v76] : Fin 1 → IVec S16 32) a x).toNat < S16.size a)
theorem k1_idx21_inb : ∀ (i : grid1.Coords) (v76 : IVec S16 32) (k1_hw21 : k1_chk21 i v76), ∀ (k1_h1 : k1_cond1 i = 1#1), ∀ a x, ((![v76] : Fin 1 → IVec S16 32) a x).toNat < S16.size a := fun i v76 k1_hw21 k1_h1 => k1_hw21 k1_h1

def k1_chk22 (i : grid1.Coords) (v81 : IVec S16 32) : Prop :=
  (∀ (k1_h1 : k1_cond1 i = 1#1), ∀ a x, ((![v81] : Fin 1 → IVec S16 32) a x).toNat < S16.size a)
theorem k1_idx22_inb : ∀ (i : grid1.Coords) (v81 : IVec S16 32) (k1_hw22 : k1_chk22 i v81), ∀ (k1_h1 : k1_cond1 i = 1#1), ∀ a x, ((![v81] : Fin 1 → IVec S16 32) a x).toNat < S16.size a := fun i v81 k1_hw22 k1_h1 => k1_hw22 k1_h1

def k1_chk24 (i : grid1.Coords) (v96 : IVec S16 32) : Prop :=
  (∀ (k1_h1 : k1_cond1 i = 1#1), ∀ a x, ((![v96] : Fin 1 → IVec S16 32) a x).toNat < S16.size a)
theorem k1_idx24_inb : ∀ (i : grid1.Coords) (v96 : IVec S16 32) (k1_hw24 : k1_chk24 i v96), ∀ (k1_h1 : k1_cond1 i = 1#1), ∀ a x, ((![v96] : Fin 1 → IVec S16 32) a x).toNat < S16.size a := fun i v96 k1_hw24 k1_h1 => k1_hw24 k1_h1

def k1_chk25 (i : grid1.Coords) (v101 : IVec S16 32) : Prop :=
  (∀ (k1_h1 : k1_cond1 i = 1#1), ∀ a x, ((![v101] : Fin 1 → IVec S16 32) a x).toNat < S16.size a)
theorem k1_idx25_inb : ∀ (i : grid1.Coords) (v101 : IVec S16 32) (k1_hw25 : k1_chk25 i v101), ∀ (k1_h1 : k1_cond1 i = 1#1), ∀ a x, ((![v101] : Fin 1 → IVec S16 32) a x).toNat < S16.size a := fun i v101 k1_hw25 k1_h1 => k1_hw25 k1_h1

def k1_chk26 (i : grid1.Coords) (v106 : IVec S16 32) : Prop :=
  (∀ (k1_h1 : k1_cond1 i = 1#1), ∀ a x, ((![v106] : Fin 1 → IVec S16 32) a x).toNat < S16.size a)
theorem k1_idx26_inb : ∀ (i : grid1.Coords) (v106 : IVec S16 32) (k1_hw26 : k1_chk26 i v106), ∀ (k1_h1 : k1_cond1 i = 1#1), ∀ a x, ((![v106] : Fin 1 → IVec S16 32) a x).toNat < S16.size a := fun i v106 k1_hw26 k1_h1 => k1_hw26 k1_h1

def k1_chk27 (i : grid1.Coords) (v111 : IVec S16 32) : Prop :=
  (∀ (k1_h1 : k1_cond1 i = 1#1), ∀ a x, ((![v111] : Fin 1 → IVec S16 32) a x).toNat < S16.size a)
theorem k1_idx27_inb : ∀ (i : grid1.Coords) (v111 : IVec S16 32) (k1_hw27 : k1_chk27 i v111), ∀ (k1_h1 : k1_cond1 i = 1#1), ∀ a x, ((![v111] : Fin 1 → IVec S16 32) a x).toNat < S16.size a := fun i v111 k1_hw27 k1_h1 => k1_hw27 k1_h1

def k1_chk23 (i : grid1.Coords) (v89 : IVec S16 32) : Prop :=
  (∀ (k1_h1 : k1_cond1 i = 1#1), ∀ a x, ((![v89] : Fin 1 → IVec S16 32) a x).toNat < S4096.size a) ∧
  (∀ (k1_h1 : k1_cond1 i = 1#1), ∀ a x, ((![v89] : Fin 1 → IVec S16 32) a x).toNat < S4096.size a)
theorem k1_idx23_inb : ∀ (i : grid1.Coords) (v89 : IVec S16 32) (k1_hw23 : k1_chk23 i v89), ∀ (k1_h1 : k1_cond1 i = 1#1), ∀ a x, ((![v89] : Fin 1 → IVec S16 32) a x).toNat < S4096.size a := fun i v89 k1_hw23 k1_h1 => k1_hw23.1 k1_h1
theorem k1_idx28_inb : ∀ (i : grid1.Coords) (v89 : IVec S16 32) (k1_hw23 : k1_chk23 i v89), ∀ (k1_h1 : k1_cond1 i = 1#1), ∀ a x, ((![v89] : Fin 1 → IVec S16 32) a x).toNat < S4096.size a := fun i v89 k1_hw23 k1_h1 => k1_hw23.2 k1_h1

def k1_chk28 (i : grid1.Coords) (v120 : IVec S16 32) : Prop :=
  (∀ (k1_h1 : k1_cond1 i = 1#1), ∀ a x, ((![v120] : Fin 1 → IVec S16 32) a x).toNat < S16.size a)
theorem k1_idx29_inb : ∀ (i : grid1.Coords) (v120 : IVec S16 32) (k1_hw28 : k1_chk28 i v120), ∀ (k1_h1 : k1_cond1 i = 1#1), ∀ a x, ((![v120] : Fin 1 → IVec S16 32) a x).toNat < S16.size a := fun i v120 k1_hw28 k1_h1 => k1_hw28 k1_h1

def k1_chk29 (i : grid1.Coords) (v125 : IVec S16 32) : Prop :=
  (∀ (k1_h1 : k1_cond1 i = 1#1), ∀ a x, ((![v125] : Fin 1 → IVec S16 32) a x).toNat < S16.size a)
theorem k1_idx30_inb : ∀ (i : grid1.Coords) (v125 : IVec S16 32) (k1_hw29 : k1_chk29 i v125), ∀ (k1_h1 : k1_cond1 i = 1#1), ∀ a x, ((![v125] : Fin 1 → IVec S16 32) a x).toNat < S16.size a := fun i v125 k1_hw29 k1_h1 => k1_hw29 k1_h1

def k1_chk30 (i : grid1.Coords) (v130 : IVec S16 32) : Prop :=
  (∀ (k1_h1 : k1_cond1 i = 1#1), ∀ a x, ((![v130] : Fin 1 → IVec S16 32) a x).toNat < S16.size a)
theorem k1_idx31_inb : ∀ (i : grid1.Coords) (v130 : IVec S16 32) (k1_hw30 : k1_chk30 i v130), ∀ (k1_h1 : k1_cond1 i = 1#1), ∀ a x, ((![v130] : Fin 1 → IVec S16 32) a x).toNat < S16.size a := fun i v130 k1_hw30 k1_h1 => k1_hw30 k1_h1

def k1_chk31 (i : grid1.Coords) (v135 : IVec S16 32) : Prop :=
  (∀ (k1_h1 : k1_cond1 i = 1#1), ∀ a x, ((![v135] : Fin 1 → IVec S16 32) a x).toNat < S16.size a)
theorem k1_idx32_inb : ∀ (i : grid1.Coords) (v135 : IVec S16 32) (k1_hw31 : k1_chk31 i v135), ∀ (k1_h1 : k1_cond1 i = 1#1), ∀ a x, ((![v135] : Fin 1 → IVec S16 32) a x).toNat < S16.size a := fun i v135 k1_hw31 k1_h1 => k1_hw31 k1_h1

def k1_chk18 (i : grid1.Coords) (v59 : IVec S16 32) : Prop :=
  (∀ (k1_h1 : k1_cond1 i = 1#1), ∀ a x, ((![v59] : Fin 1 → IVec S16 32) a x).toNat < S256.size a) ∧
  (∀ (k1_h1 : k1_cond1 i = 1#1), ∀ a x, ((![v59] : Fin 1 → IVec S16 32) a x).toNat < S256.size a)
theorem k1_idx18_inb : ∀ (i : grid1.Coords) (v59 : IVec S16 32) (k1_hw18 : k1_chk18 i v59), ∀ (k1_h1 : k1_cond1 i = 1#1), ∀ a x, ((![v59] : Fin 1 → IVec S16 32) a x).toNat < S256.size a := fun i v59 k1_hw18 k1_h1 => k1_hw18.1 k1_h1
theorem k1_idx33_inb : ∀ (i : grid1.Coords) (v59 : IVec S16 32) (k1_hw18 : k1_chk18 i v59), ∀ (k1_h1 : k1_cond1 i = 1#1), ∀ a x, ((![v59] : Fin 1 → IVec S16 32) a x).toNat < S256.size a := fun i v59 k1_hw18 k1_h1 => k1_hw18.2 k1_h1

def k1_chk32 (i : grid1.Coords) (v142 : IVec S16 32) : Prop :=
  (∀ (k1_h1 : k1_cond1 i = 1#1), ∀ a x, ((![v142] : Fin 1 → IVec S16 32) a x).toNat < S16.size a)
theorem k1_idx34_inb : ∀ (i : grid1.Coords) (v142 : IVec S16 32) (k1_hw32 : k1_chk32 i v142), ∀ (k1_h1 : k1_cond1 i = 1#1), ∀ a x, ((![v142] : Fin 1 → IVec S16 32) a x).toNat < S16.size a := fun i v142 k1_hw32 k1_h1 => k1_hw32 k1_h1

def k1_chk33 (i : grid1.Coords) (v147 : IVec S16 32) : Prop :=
  (∀ (k1_h1 : k1_cond1 i = 1#1), ∀ a x, ((![v147] : Fin 1 → IVec S16 32) a x).toNat < S16.size a)
theorem k1_idx35_inb : ∀ (i : grid1.Coords) (v147 : IVec S16 32) (k1_hw33 : k1_chk33 i v147), ∀ (k1_h1 : k1_cond1 i = 1#1), ∀ a x, ((![v147] : Fin 1 → IVec S16 32) a x).toNat < S16.size a := fun i v147 k1_hw33 k1_h1 => k1_hw33 k1_h1

def k1_chk34 (i : grid1.Coords) (v152 : IVec S16 32) : Prop :=
  (∀ (k1_h1 : k1_cond1 i = 1#1), ∀ a x, ((![v152] : Fin 1 → IVec S16 32) a x).toNat < S16.size a)
theorem k1_idx36_inb : ∀ (i : grid1.Coords) (v152 : IVec S16 32) (k1_hw34 : k1_chk34 i v152), ∀ (k1_h1 : k1_cond1 i = 1#1), ∀ a x, ((![v152] : Fin 1 → IVec S16 32) a x).toNat < S16.size a := fun i v152 k1_hw34 k1_h1 => k1_hw34 k1_h1

def k1_chk35 (i : grid1.Coords) (v157 : IVec S16 32) : Prop :=
  (∀ (k1_h1 : k1_cond1 i = 1#1), ∀ a x, ((![v157] : Fin 1 → IVec S16 32) a x).toNat < S16.size a)
theorem k1_idx37_inb : ∀ (i : grid1.Coords) (v157 : IVec S16 32) (k1_hw35 : k1_chk35 i v157), ∀ (k1_h1 : k1_cond1 i = 1#1), ∀ a x, ((![v157] : Fin 1 → IVec S16 32) a x).toNat < S16.size a := fun i v157 k1_hw35 k1_h1 => k1_hw35 k1_h1
@[reducible] def k1_t4_loop : Scf.Loop 32 :=
  let c0_i32_10 : BitVec 32 := 0#32
  let c256_i32_11 : BitVec 32 := 256#32
  let v13 : BitVec 32 := Scalar.addi c0_i32_10 c256_i32_11
  let c1_i32_12 : BitVec 32 := 1#32
  ⟨c0_i32_10, v13, c1_i32_12⟩
def k1_off4 (k1_t4 : Fin k1_t4_loop.trips) : Fin 1 → Nat :=
  let c0_i32_10 : BitVec 32 := 0#32
  let c1_i32_12 : BitVec 32 := 1#32
  let arg11 : BitVec 32 := Scf.iv c0_i32_10 c1_i32_12 k1_t4
  let c16_i32_14 : BitVec 32 := 16#32
  let v14 : BitVec 32 := Scalar.muli arg11 c16_i32_14
  let v15 : Index := Scalar.indexCast v14
  ![v15.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x2048 : Shape := ⟨3, ![4, 4096, 2048]⟩
abbrev S4x4096 : Shape := ⟨2, ![4, 4096]⟩
abbrev S1024x2048 : Shape := ⟨2, ![1024, 2048]⟩
abbrev S1024 : Shape := ⟨1, ![1024]⟩
abbrev S1x1024 : Shape := ⟨2, ![1, 1024]⟩
abbrev S1 : Shape := ⟨1, ![1]⟩
abbrev S2048x1024 : Shape := ⟨2, ![2048, 1024]⟩
abbrev S4x4096x1024 : Shape := ⟨3, ![4, 4096, 1024]⟩
abbrev S1x1x1024 : Shape := ⟨3, ![1, 1, 1024]⟩
abbrev S_ : Shape := ⟨0, ![]⟩
abbrev S1024x1 : Shape := ⟨2, ![1024, 1]⟩
abbrev S4x4096x1 : Shape := ⟨3, ![4, 4096, 1]⟩
abbrev S1x1x1 : Shape := ⟨3, ![1, 1, 1]⟩
abbrev S4x64 : Shape := ⟨2, ![4, 64]⟩
abbrev S4 : Shape := ⟨1, ![4]⟩
abbrev S4x1 : Shape := ⟨2, ![4, 1]⟩
abbrev S4x64x1 : Shape := ⟨3, ![4, 64, 1]⟩
abbrev S4x64x2 : Shape := ⟨3, ![4, 64, 2]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i32⟩
  | .hbm, ⟨2, _⟩ => ⟨S1024x2048, .f32⟩
  | .hbm, ⟨3, _⟩ => ⟨S1024, .f32⟩
  | .hbm, ⟨4, _⟩ => ⟨S1x1024, .f32⟩
  | .hbm, ⟨5, _⟩ => ⟨S1, .f32⟩
  | .hbm, ⟨6, _⟩ => ⟨S2048x1024, .f32⟩
  | .hbm, ⟨7, _⟩ => ⟨S4x4096x1024, .f32⟩
  | .hbm, ⟨8, _⟩ => ⟨S1x1x1024, .f32⟩
  | .hbm, ⟨9, _⟩ => ⟨S4x4096x1024, .f32⟩
  | .hbm, ⟨10, _⟩ => ⟨S4x4096x1024, .f32⟩
  | .hbm, ⟨11, _⟩ => ⟨S_, .f32⟩
  | .hbm, ⟨12, _⟩ => ⟨S4x4096x1024, .f32⟩
  | .hbm, ⟨13, _⟩ => ⟨S4x4096x1024, .f32⟩
  | .hbm, ⟨14, _⟩ => ⟨S1024x1, .f32⟩
  | .hbm, ⟨15, _⟩ => ⟨S4x4096x1, .f32⟩
  | .hbm, ⟨16, _⟩ => ⟨S1x1x1, .f32⟩
  | .hbm, ⟨17, _⟩ => ⟨S4x4096x1, .f32⟩
  | .hbm, ⟨18, _⟩ => ⟨S4x4096x1, .f32⟩
  | .hbm, ⟨19, _⟩ => ⟨S4x4096, .f32⟩
  | .hbm, ⟨20, _⟩ => ⟨S_, .i32⟩
  | .hbm, ⟨21, _⟩ => ⟨S4x4096, .i32⟩
  | .hbm, ⟨22, _⟩ => ⟨S4x4096, .i1⟩
  | .hbm, ⟨23, _⟩ => ⟨S_, .f32⟩
  | .hbm, ⟨24, _⟩ => ⟨S_, .f32⟩
  | .hbm, ⟨25, _⟩ => ⟨S4x4096, .f32⟩
  | .hbm, ⟨26, _⟩ => ⟨S4x4096, .f32⟩
  | .hbm, ⟨27, _⟩ => ⟨S4x64, .f32⟩
  | .hbm, ⟨28, _⟩ => ⟨S4x64, .i32⟩
  | .hbm, ⟨29, _⟩ => ⟨S_, .i32⟩
  | .hbm, ⟨30, _⟩ => ⟨S4x4096, .i32⟩
  | .hbm, ⟨31, _⟩ => ⟨S4, .i32⟩
  | .hbm, ⟨32, _⟩ => ⟨S4x1, .i32⟩
  | .hbm, ⟨33, _⟩ => ⟨S_, .i32⟩
  | .hbm, ⟨34, _⟩ => ⟨S4x1, .i32⟩
  | .hbm, ⟨35, _⟩ => ⟨S4x1, .i1⟩
  | .hbm, ⟨36, _⟩ => ⟨S_, .i32⟩
  | .hbm, ⟨37, _⟩ => ⟨S4x1, .i32⟩
  | .hbm, ⟨38, _⟩ => ⟨S4x1, .i32⟩
  | .hbm, ⟨39, _⟩ => ⟨S4x1, .i32⟩
  | .hbm, ⟨40, _⟩ => ⟨S_, .i32⟩
  | .hbm, ⟨41, _⟩ => ⟨S4x64, .i32⟩
  | .hbm, ⟨42, _⟩ => ⟨S4x64, .i1⟩
  | .hbm, ⟨43, _⟩ => ⟨S_, .i32⟩
  | .hbm, ⟨44, _⟩ => ⟨S4x64, .i32⟩
  | .hbm, ⟨45, _⟩ => ⟨S4x64, .i32⟩
  | .hbm, ⟨46, _⟩ => ⟨S4x64, .i32⟩
  | .hbm, ⟨47, _⟩ => ⟨S4x64, .i32⟩
  | .hbm, ⟨48, _⟩ => ⟨S4x64x1, .i32⟩
  | .hbm, ⟨49, _⟩ => ⟨S4x64x1, .i32⟩
  | .hbm, ⟨50, _⟩ => ⟨S4x64x2, .i32⟩
  | .hbm, ⟨51, _⟩ => ⟨S_, .i32⟩
  | .hbm, ⟨52, _⟩ => ⟨S4x64, .i32⟩
  | .hbm, ⟨53, _⟩ => ⟨S4x4096, .i32⟩
  | .hbm, ⟨54, _⟩ => ⟨S_, .i32⟩
  | .hbm, ⟨55, _⟩ => ⟨S1, .i32⟩
  | .hbm, ⟨56, _⟩ => ⟨S_, .i32⟩
  | .hbm, ⟨57, _⟩ => ⟨S4, .i32⟩
  | .hbm, ⟨58, _⟩ => ⟨S4x4096, .i32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_values : Ref sig .tc := ⟨.hbm, 27, rfl⟩
abbrev main_indices : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Proof.Base.lean ====
/-
  The names the SparseCore kernel's proof shares: the launch configuration, the resource algebra (the handshakes'
  rounds, the TensorCore pipeline's rounds and the transfers' counters side by side), the kernel's memrefs, the lane
  vectors of the sixteen-lane butterflies and the pure functions the butterflies compute.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.Select

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's rounds, the transfers' counters. -/
abbrev UH : Type := URounds (GSem nD τ sig) ℕ
abbrev UP : Type := URounds (GSem nD τ sig) Unit
abbrev UU : Type := UH × (UP × Counters)

/-- The assertions of the whole launch. -/
abbrev MM (F : FTy → Type) : Type := MT nD τ sig (HIx 1) (Elt F) ℕ UU ℕ

abbrev EH : Emb UH (MM F) := embL

/-- The tile a coordinate pair names. -/
abbrev tile (d : Dev nD) (i : grid1.Coords) : Thread nD τ := V d ((i 0).castLE hcore1) ((i 1).castLE hsub1)

/-! ## The kernel's memrefs -/

abbrev hbS : Memref sig Kind.scVector Space.hbm S16384 EltTy.f32 := Memref.whole main_v6_scv
abbrev hbM : Memref sig Kind.scVector Space.hbm S16384 EltTy.i32 := Memref.whole main_v7_scv
abbrev hbO : Memref sig Kind.scVector Space.hbm S16384 EltTy.i32 := Memref.whole main_v8_scv
abbrev bS : Memref sig Kind.scVector Space.vmem S4096 EltTy.f32 := Memref.whole cc1_scratch0
abbrev bM : Memref sig Kind.scVector Space.vmem S4096 EltTy.i32 := Memref.whole cc1_scratch1
abbrev bC : Memref sig Kind.scVector Space.vmem S256 EltTy.f32 := Memref.whole cc1_scratch2
abbrev bO : Memref sig Kind.scVector Space.vmem S4096 EltTy.i32 := Memref.whole cc1_scratch3
abbrev bF : Memref sig Kind.scVector Space.vmem S16 EltTy.f32 := Memref.whole cc1_scratch4
abbrev bI : Memref sig Kind.scVector Space.vmem S16 EltTy.i32 := Memref.whole cc1_scratch5

/-- Programs of a tile. -/
abbrev PR (F : FTy → Type) (d : Dev nD) (i : grid1.Coords) (α : Type) : Type 1 := Prog (TpuEff nD τ sig (Elt F) Λ₀ (tile d i).2) α

/-! ## The butterflies' lane vectors -/

/-- Lane numbers. -/
abbrev lanes : IVec S16 32 := iota .scVector S16 32 [0] iota_S16_d0_w32_scVector

/-- The partner of each lane at distance `k`. -/
abbrev partner (k : BitVec 32) : IVec S16 32 := xori lanes (broadcast S16 k)

theorem lanes_apply (x : S16.Idx) : lanes x = BitVec.ofNat 32 (x 0).val := by
  simp [iota]

theorem partner_lt (k : BitVec 32) (hk : k.toNat < 16) : ∀ a x, ((![partner k]) a x).toNat < S16.size a := by
  intro a x
  obtain rfl : a = 0 := Subsingleton.elim _ _
  show (lanes x ^^^ k).toNat < 16
  rw [lanes_apply, BitVec.toNat_xor]
  have hx : (x 0).val < 16 := (x 0).isLt
  exact Nat.xor_lt_two_pow (n := 4) (by rw [BitVec.toNat_ofNat, Nat.mod_eq_of_lt (by omega)]; exact hx) hk

variable [FloatOps F]

/-- A tile's program run to a postcondition. -/
abbrev WP {α : Type} (d : Dev nD) (i : grid1.Coords) (p : PR F d i α) (Q : α → sProp (MM F)) : sProp (MM F) :=
  wp frame (wpE (defs₀ (F := F)) 𝒱₀ (tile d i) none) Set.univ p Q

/-- Each lane's partner's element. -/
abbrev swapped {e : EltTy} (x : Vec F S16 e) (k : BitVec 32) (hk : k.toNat < 16) : Vec F S16 e := loadIdx x ![partner k] (partner_lt k hk)

/-- One stage of a maximum butterfly: each lane with its partner. -/
def maxW (x : FVec F S16 .f32) (k : BitVec 32) (hk : k.toNat < 16 := by decide) : FVec F S16 .f32 := maximumf x (swapped (F := F) (e := .f32) x k hk)

/-- One stage of a minimum butterfly. -/
def minW (F : FTy → Type) (x : IVec S16 32) (k : BitVec 32) (hk : k.toNat < 16 := by decide) : IVec S16 32 := minsi x (swapped (F := F) (e := .i32) x k hk)

/-- The largest of the sixteen lanes, at every lane, as the kernel computes it. -/
def allMax (x : FVec F S16 .f32) : FVec F S16 .f32 := maxW (maxW (maxW (maxW x 1#32) 2#32) 4#32) 8#32

/-- The smallest of sixteen words, at every lane, as the kernel computes it. -/
def allMin (F : FTy → Type) (x : IVec S16 32) : IVec S16 32 := minW F (minW F (minW F (minW F x 1#32) 2#32) 4#32) 8#32

/-- The numbers of the lanes of `x` equal to `v`'s, sixteen at the others. -/
def hits (x v : FVec F S16 .f32) : IVec S16 32 := select (cmpf .oeq x v) lanes (broadcast S16 16#32)

/-- Where the sixteen chunk maxima of block `j` lie. -/
def blockAt (j : IVec S16 32) : IVec S16 32 := addi (muli j (broadcast S16 16#32)) lanes

/-- Where the sixteen scores of chunk `l` of block `j` lie. -/
def chunkAt (j l : IVec S16 32) : IVec S16 32 := addi (muli (addi (muli j (broadcast S16 16#32)) l) (broadcast S16 16#32)) lanes

/-- The sixteen-lane vector with lane `l` sent to minus infinity. -/
def knock (l : IVec S16 32) (x : FVec F S16 .f32) : FVec F S16 .f32 :=
  select (cmpi .eq lanes l) (broadcast S16 (Scalar.ofBits .f32 0xFF800000#32 : F .f32)) x

/-- The sixteen-lane vector with lane `l` replaced. -/
def putLane (l : IVec S16 32) (v x : FVec F S16 .f32) : FVec F S16 .f32 := select (cmpi .eq lanes l) v x

end Cert.Proof.Select
-- ==== Proof.Region.lean ====
/-
  The TensorCore's call: the scorer's body run at a grid point, the proof data of the pipeline and the call as one
  region of @main, entered while the TensorCore still owes the SparseCores their start.
-/
module

public import proofs.«01_k».proof.Proof.Base
public import proofs.«01_k».proof.Proof.Gen.KernelIdeal.Launch
public import proofs.«01_k».proof.Proof.Gen.KernelIdeal.Points
public import Idealize.ShloMosaic.Lib.Pipeline.RegionArraysS

@[expose] public section

set_option maxRecDepth 16384

noncomputable section

namespace Cert.Proof.Select

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (Dat Cfg Window BodyObligation cellOf)

variable {F : FTy → Type} [FloatOps F]

/-- The pipeline's rounds, embedded. -/
def EP : Emb UP (MM F) := (Emb.inl : Emb UP (UP × Counters)).trans embR

instance EP_landsIn : (EP : Emb UP (MM F)).LandsIn (upEmb : UEmb _ (MM F)) := by unfold EP; infer_instance

/-- A memref's whole buffer on device `d`'s TensorCore. -/
abbrev Bf (F : FTy → Type) (d : Dev nD) {sp : Space} {S : Shape} {e : EltTy} (M : Memref sig .tc sp S e) : Type := Buf (Elt F) (M.view.loc (d : Thread nD τ))
abbrev pt (d : Dev nD) {sp : Space} {S : Shape} {e : EltTy} (M : Memref sig .tc sp S e) (f : Bf F d M) : sProp (MM F) :=
  M.view.loc (d : Thread nD τ) ↦{fullShare} f

/-! ## The body at a grid point -/

theorem zero2 : (![0, 0] : Fin 2 → ℕ) = fun _ => 0 := by decide
theorem zero3 : (![0, 0, 0] : Fin 3 → ℕ) = fun _ => 0 := by decide

theorem scorer_run [∀ e, Nonempty (Elt F e)] (d : Dev nD) (i : grid0.Coords)
    (M0 : Memref sig .tc .vmem S1024x2048 .f32) (h0 : M0.IsWhole) (M1 : Memref sig .tc .vmem S1024x2048 .f32) (h1 : M1.IsWhole)
    (M2 : Memref sig .tc .vmem S1x1024 .f32) (h2 : M2.IsWhole) (M3 : Memref sig .tc .vmem S128x1024 .f32) (h3 : M3.IsWhole)
    (M4 : Memref sig .tc .vmem S1x1x1024 .f32) (h4 : M4.IsWhole)
    (f0 : Bf F d M0) (f1 : Bf F d M1) (f2 : Bf F d M2) (f3 : Bf F d M3) (f4 : Bf F d M4) (Q : PUnit → sProp (MM F)) :
    iprop(pt d M0 f0 ∗ pt d M1 f1 ∗ pt d M2 f2 ∗ pt d M3 f3 ∗ pt d M4 f4
        ∗ (iprop(pt d M0 f0 ∗ pt d M1 f1 ∗ pt d M2 f2 ∗ pt d M3 f3
            ∗ ∃ w : Bf F d M4, ⌜M4.view.read (Elt F) w = k0_pay1 (M0.view.read (Elt F) f0) (M1.view.read (Elt F) f1) (M2.view.read (Elt F) f2) (M3.view.read (Elt F) f3)⌝
              ∗ pt d M4 w) -∗ Q ⟨⟩))
      ⊢ wp frame (wpE (defs₀ (F := F)) 𝒱₀ (d : Thread nD τ) none) Set.univ (cc0__scorer_body i M0 h0 M1 h1 M2 h2 M3 h3 M4 h4) Q := by
  rw [cc0__scorer_body_eq_skeleton]
  iintro ⟨H0, H1, H2, H3, H4, Hk⟩
  sl_exec
  sl_step
  iapply Hk
  isplitl [H0]; · iexact H0
  isplitl [H1]; · iexact H1
  isplitl [H2]; · iexact H2
  isplitl [H3]; · iexact H3
  iexists _; isplitr; swap; (· iexact H4)
  ipureintro
  rw [View.read_writes_eq_canon _ _ _ (fun y => ⟨_, List.mem_singleton_self _, View.mem_set_unit_zero zero3 inb_S1x1x1024_S1x1x1024_0_0_0 y⟩), View.canon_unit_zero zero3]
  have e0 : View.readAt (Elt F) M0.view (Rect.unit ![0, 0] S1024x2048.size inb_S1024x2048_S1024x2048_0_0).toLoadRect f0 = M0.view.read (Elt F) f0 := View.ld_unit_zero zero2 _ _
  have e1 : View.readAt (Elt F) M1.view (Rect.unit ![0, 0] S1024x2048.size inb_S1024x2048_S1024x2048_0_0).toLoadRect f1 = M1.view.read (Elt F) f1 := View.ld_unit_zero zero2 _ _
  have e2 : View.readAt (Elt F) M2.view (Rect.unit ![0, 0] S1x1024.size inb_S1x1024_S1x1024_0_0).toLoadRect f2 = M2.view.read (Elt F) f2 := View.ld_unit_zero zero2 _ _
  have e3 : View.readAt (Elt F) M3.view (Rect.unit ![0, 0] S128x1024.size inb_S128x1024_S128x1024_0_0).toLoadRect f3 = M3.view.read (Elt F) f3 := View.ld_unit_zero zero2 _ _
  rw [e0, e1, e2, e3]

/-- A whole memref owned is its buffer held at contents that read so. -/
theorem owns_pt (d : Dev nD) {sp : Space} {S : Shape} {e : EltTy} (M : Memref sig .tc sp S e) (h : M.IsWhole) (X : S.Idx → Elt F e) :
    (owns (d : Thread nD τ) M fullShare X : sProp (MM F)) = iprop(∃ f : Bf F d M, ⌜M.view.read (Elt F) f = X⌝ ∗ pt d M f) := by
  unfold owns pt
  rw [h.set_eq_univ]

/-! ## The proof data, at an entry valuation -/

variable (VA : Dev nD → Valuation τ sig (Elt F))

/-- The four inputs' blocks at point `t` of the arrays as the region finds them. -/
abbrev blk0 (d : Dev nD) (t : Fin cfg0.N) : FVec F S1024x2048 .f32 := ((cfg0.win 0).blk t).view.read (Elt F) (VA d (Proc.devRef .tc (Pipeline.arrRef spec0 0)))
abbrev blk1 (d : Dev nD) (t : Fin cfg0.N) : FVec F S1024x2048 .f32 := ((cfg0.win 1).blk t).view.read (Elt F) (VA d (Proc.devRef .tc (Pipeline.arrRef spec0 1)))
abbrev blk2 (d : Dev nD) (t : Fin cfg0.N) : FVec F S1x1024 .f32 := ((cfg0.win 2).blk t).view.read (Elt F) (VA d (Proc.devRef .tc (Pipeline.arrRef spec0 2)))
abbrev blk3 (d : Dev nD) (t : Fin cfg0.N) : FVec F S128x1024 .f32 := ((cfg0.win 3).blk t).view.read (Elt F) (VA d (Proc.devRef .tc (Pipeline.arrRef spec0 3)))

/-- The scores of the rows of point `t`. -/
abbrev scoreBlk (d : Dev nD) (t : Fin cfg0.N) : FVec F S1x1x1024 .f32 :=
  k0_pay1 (blk0 VA d t) (blk1 VA d t) (blk2 VA d t) (blk3 VA d t)

/-- The proof data: the arrays as found, each input's buffer as fetched, the result's at the point's scores; the
    start signals still owed throughout. -/
def dat (d : Dev nD) : Dat τ (Elt F) (HIx 1) ℕ UU ℕ cfg0 d where
  A w := VA d (Proc.devRef .tc (Pipeline.arrRef spec0 w))
  after w t := match w with
    | ⟨0, _⟩ => blk0 VA d t
    | ⟨1, _⟩ => blk1 VA d t
    | ⟨2, _⟩ => blk2 VA d t
    | ⟨3, _⟩ => blk3 VA d t
    | ⟨4, _⟩ => scoreBlk VA d t
  Φ _ := Pipeline.scopedRest (Ix := HIx 1) (Name := ℕ) (U := UU) (Lvl := ℕ) (Val := Elt F) spec0 d
  q _ := fullShare
  owed _ := (K (F := F)).Otc d 0
  recorded _ := {p | (K (F := F)).lev (SparseCore.T d, p.1) p.2 ≤ 0}

/-- No table is prefetched. -/
abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat VA c

theorem before_0 (d : Dev nD) (t : Fin cfg0.N) (x) : (dat VA d).before 0 t x = blk0 VA d t :=
  (dat VA d).before_in_eq_fetched 0 rfl (fun _ => rfl) (fun _ _ _ => rfl) (fun _ => by dsimp only [dat]; rfl) t x
theorem before_1 (d : Dev nD) (t : Fin cfg0.N) (x) : (dat VA d).before 1 t x = blk1 VA d t :=
  (dat VA d).before_in_eq_fetched 1 rfl (fun _ => rfl) (fun _ _ _ => rfl) (fun _ => by dsimp only [dat]; rfl) t x
theorem before_2 (d : Dev nD) (t : Fin cfg0.N) (x) : (dat VA d).before 2 t x = blk2 VA d t :=
  (dat VA d).before_in_eq_fetched 2 rfl (fun _ => rfl) (fun _ _ _ => rfl) (fun _ => by dsimp only [dat]; rfl) t x
theorem before_3 (d : Dev nD) (t : Fin cfg0.N) (x) : (dat VA d).before 3 t x = blk3 VA d t :=
  (dat VA d).before_in_eq_fetched 3 rfl (fun _ => rfl) (fun _ _ _ => rfl) (fun _ => by dsimp only [dat]; rfl) t x

theorem body_obligation [∀ e, Nonempty (Elt F e)] (d : Dev nD) : BodyObligation (dat VA d) (defs₀ (F := F)) 𝒱₀ none Set.univ := fun t => by
  rw [bigSep_W0, bigSep_W0]
  change iprop((dat VA d).Φ t.castSucc ∗ (dat VA d).owesAt none t.castSucc
      ∗ (∃ x, owns (d : Thread nD τ) (st0_0 t) fullShare ((dat VA d).before 0 t x)) ∗ (∃ x, owns (d : Thread nD τ) (st0_1 t) fullShare ((dat VA d).before 1 t x))
      ∗ (∃ x, owns (d : Thread nD τ) (st0_2 t) fullShare ((dat VA d).before 2 t x)) ∗ (∃ x, owns (d : Thread nD τ) (st0_3 t) fullShare ((dat VA d).before 3 t x))
      ∗ (∃ x, owns (d : Thread nD τ) (st0_4 t) fullShare ((dat VA d).before 4 t x)))
    ⊢ wp frame (wpE (defs₀ (F := F)) 𝒱₀ (d : Thread nD τ) none) Set.univ (bodyAt0 t) fun _ =>
      iprop((dat VA d).Φ t.succ ∗ (dat VA d).owesAt none t.succ
        ∗ owns (d : Thread nD τ) (st0_0 t) fullShare ((dat VA d).after 0 t) ∗ owns (d : Thread nD τ) (st0_1 t) fullShare ((dat VA d).after 1 t)
        ∗ owns (d : Thread nD τ) (st0_2 t) fullShare ((dat VA d).after 2 t) ∗ owns (d : Thread nD τ) (st0_3 t) fullShare ((dat VA d).after 3 t)
        ∗ owns (d : Thread nD τ) (st0_4 t) fullShare ((dat VA d).after 4 t))
  simp only [before_0, before_1, before_2, before_3]
  rw [show (dat VA d).after 0 t = blk0 VA d t by dsimp only [dat], show (dat VA d).after 1 t = blk1 VA d t by dsimp only [dat],
    show (dat VA d).after 2 t = blk2 VA d t by dsimp only [dat], show (dat VA d).after 3 t = blk3 VA d t by dsimp only [dat],
    show (dat VA d).after 4 t = scoreBlk VA d t by dsimp only [dat]]
  simp only [owns_pt d (st0_0 t) (hstage0_0 ((cfg0.slots t 0).cast nbuf0_0)), owns_pt d (st0_1 t) (hstage0_1 ((cfg0.slots t 1).cast nbuf0_1)),
    owns_pt d (st0_2 t) (hstage0_2 ((cfg0.slots t 2).cast nbuf0_2)), owns_pt d (st0_3 t) (hstage0_3 ((cfg0.slots t 3).cast nbuf0_3)),
    owns_pt d (st0_4 t) (hstage0_4 ((cfg0.slots t 4).cast nbuf0_4))]
  iintro ⟨HΦ, HO, ⟨%x0, %f0, %e0, H0⟩, ⟨%x1, %f1, %e1, H1⟩, ⟨%x2, %f2, %e2, H2⟩, ⟨%x3, %f3, %e3, H3⟩, ⟨%x4, %f4, -, H4⟩⟩
  iapply (scorer_run d (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) f0 f1 f2 f3 f4 _)
  isplitl [H0]; · iexact H0
  isplitl [H1]; · iexact H1
  isplitl [H2]; · iexact H2
  isplitl [H3]; · iexact H3
  isplitl [H4]; · iexact H4
  iintro ⟨H0, H1, H2, H3, %w, %hw, H4⟩
  ihave HΦ := (Entails.of_eq (show (dat VA d).Φ t.castSucc = (dat VA d).Φ t.succ from rfl)) $$ HΦ
  ihave HO := (Entails.of_eq (show (dat VA d).owesAt none t.castSucc = (dat VA d).owesAt none t.succ from rfl)) $$ HO
  isplitl [HΦ]; · iexact HΦ
  isplitl [HO]; · iexact HO
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  iexists w; isplitr
  · ipureintro; rw [hw, e0, e1, e2, e3]
  iexact H4

end Cert.Proof.Select
-- ==== Proof.Call.lean ====
/-
  The TensorCore's call as one region of @main: entered with the arrays at a valuation and the start signals owed,
  left with the arrays where the grid's points put them and the same owed.
-/
module

public import proofs.«01_k».proof.Proof.Region

@[expose] public section

set_option maxRecDepth 16384

noncomputable section

namespace Cert.Proof.Select

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (Dat Cfg Window BodyObligation cellOf)

variable {F : FTy → Type} [FloatOps F]

variable (VA : Dev nD → Valuation τ sig (Elt F))

/-- What the TensorCore owes before the SparseCore call, its recorded waits at level 0. -/
abbrev owesLow (d : Dev nD) : sProp (MM F) := iprop(∃ Wd, ⌜(K (F := F)).WBelow (SparseCore.T d) Wd 0⌝ ∗ owes (SparseCore.T d) ((K (F := F)).Otc d 0) Wd)

abbrev kit0 : Pipeline.PLaunchFacts (nD := nD) (τ := τ) (pcfgs (F := F)) 0 := launch0.toP

theorem low_otc (d : Dev nD) (g : GSem nD τ sig) (i : HIx 1) (h : 0 < (K (F := F)).Otc d 0 g i) : i ∈ (K (F := F)).L g ∧ 0 < (K (F := F)).lev g i :=
  ⟨Finset.mem_univ _, lt_of_lt_of_le (Nat.succ_pos _) ((K (F := F)).lev_of_Otc_pos h)⟩

set_option backward.isDefEq.respectTransparency.types false in
/-- The call's record. -/
def reg : Pipeline.RegionSeg (pcfgs (F := F)) adm (pdats VA) none defs₀ 𝒱₀ (K (F := F)).L (K (F := F)).lev 0 where
  win := (kit0 (F := F)).win.to₀
  block_pos := (kit0 (F := F)).block_pos
  stage_whole := (kit0 (F := F)).stage_whole
  K := PEmpty
  osem k := k.elim
  ho := Pipeline.OwnSemFacts.none _
  hbody c := (body_obligation VA c).loose
  hwaits c := Pipeline.cellsWaits_of_cut (Pipeline.pin (pcfgs (F := F)) adm) (pdats VA) none 0 c 0 ((K (F := F)).Otc c 0) (fun _ => rfl)
    (fun _ _ => Finset.mem_univ _) (fun _ _ => le_of_eq rfl) (low_otc c)
  pre c := iprop(StableHlo.held (SparseCore.T c) (Pipeline.ucRefs τ sig) (VA c) ∗ owesLow c)
  post c := iprop(StableHlo.held (SparseCore.T c) (Pipeline.ucRefs τ sig) (Pipeline.afterRegion (dat VA c) (VA c)) ∗ owesLow c)
  X _ := BI.emp
  Y _ := BI.emp
  Z c := StableHlo.held (SparseCore.T c) (Pipeline.ucRefs τ sig \ Pipeline.arrRefs spec0) (VA c)
  hentry c := by
    rw [Pipeline.ownSems0_none, Pipeline.prefHeld_of_none _ rfl]
    have hA := Pipeline.arrays_held (pcfgs (F := F)) adm (pdats VA) 0 kit0 c ((pdats VA 0 c).share_full fun _ => rfl) ((pdats VA 0 c).arrAt · 0) (VA c) (fun _ => rfl)
    rw [hA, StableHlo.held_sub_split (SparseCore.T c) (Pipeline.arrRefs_sub_ucRefs spec0 (kit0 (F := F)).win.arr_unscoped) (VA c)]
    iintro ⟨⟨⟨Ha, Hu⟩, %Wd, %hW, HO⟩, -, -⟩
    imodintro
    isplitl [Ha]; · iexact Ha
    isplitr; · iempintro
    isplitl [HO]
    · unfold Pipeline.Dat.owesAt Pipeline.owesWithin
      iexists Wd; isplitr; · ipureintro; exact fun p hp => Or.inl (hW p hp)
      iexact HO
    isplitr; · iempintro
    iexact Hu
  hin c := by
    rw [show (pdats VA 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats VA 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hA := Pipeline.arrays_held (pcfgs (F := F)) adm (pdats VA) 0 kit0 c ((pdats VA 0 c).share_full fun _ => rfl) ((pdats VA 0 c).arrAt · cfg0.N)
      (Pipeline.afterRegion (dat VA c) (VA c)) (fun w => (Pipeline.afterRegion_arr (dat VA c) (VA c) (kit0 (F := F)).win.arr_inj w).symm)
    rw [StableHlo.held_sub_split (SparseCore.T c) (Pipeline.arrRefs_sub_ucRefs spec0 (kit0 (F := F)).win.arr_unscoped) (Pipeline.afterRegion (dat VA c) (VA c)),
      StableHlo.held_congr (SparseCore.T c) (S := Pipeline.ucRefs τ sig \ Pipeline.arrRefs spec0) (V := Pipeline.afterRegion (dat VA c) (VA c)) (V' := VA c)
        (Pipeline.afterRegion_off (dat VA c) (VA c) _)]
    iintro ⟨Ha, HO, -, Hu⟩
    imodintro
    isplitl [Ha Hu]
    · isplitl [Ha]
      · ihave Ha := (Entails.of_eq hA) $$ Ha; iexact Ha
      · iexact Hu
    unfold Pipeline.Dat.owesAt Pipeline.owesWithin
    icases HO with ⟨%Wd, %hW, HO⟩; iexists Wd
    isplitr
    · ipureintro
      intro p hp
      rcases hW hp with h | ⟨w, s, e⟩
      · exact h
      · rw [e]; exact le_of_eq rfl
    iexact HO

/-- The call's program, and the same over the pipeline's labels. -/
abbrev callProg : Prog (TpuEff nD τ sig (Elt F) (SparseCore.Sig (ΛP (F := F)) 1) .tc) PUnit := Prog.lift (.customCall (SparseCore.inner (Pipeline.entry 0)) ())
abbrev callProg₀ : Prog (TpuEff nD τ sig (Elt F) (ΛP (F := F)) .tc) PUnit := .op (.customCall (Pipeline.entry 0) ()) fun _ => .ret ⟨⟩

theorem callProg_eq : callProg (F := F) = SparseCore.liftProg (pr := (Proc.tc : Proc τ)) callProg₀ := rfl

set_option backward.isDefEq.respectTransparency.types false in
/-- The call, as @main makes it: the kernel's signals owed throughout, the scores where the grid's points put them. -/
theorem call_step [∀ e, Nonempty (Elt F e)] (d : Dev nD) (Q : PUnit → sProp (MM F)) :
    iprop((iprop(boundary (SparseCore.T d) ∗ StableHlo.held (SparseCore.T d) (Pipeline.ucRefs τ sig) (Pipeline.afterRegion (dat VA d) (VA d)) ∗ owesLow d) -∗ Q ⟨⟩)
        ∗ boundary (SparseCore.T d) ∗ StableHlo.held (SparseCore.T d) (Pipeline.ucRefs τ sig) (VA d) ∗ owesLow d
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs D) 𝒱 (SparseCore.T d) none) Set.univ
          callProg Q := by
  rw [callProg_eq]
  refine BI.Entails.trans ?_ ((K (F := F)).wp_liftProg D 𝒱 (SparseCore.T d) Set.univ none callProg₀ Q)
  have H := Pipeline.RegionSeg.wp (pcfgs (F := F)) adm (pdats VA) none ((kit0 (F := F)).cellOf_inj adm) EP defs₀ 𝒱₀ (K (F := F)).L (K (F := F)).lev
    (reg VA) d none (fun u hu => by cases hu) (fun _ => .ret ⟨⟩) Q
  refine BI.Entails.trans ?_ H
  show iprop((iprop(boundary (SparseCore.T d) ∗ StableHlo.held (SparseCore.T d) (Pipeline.ucRefs τ sig) (Pipeline.afterRegion (dat VA d) (VA d)) ∗ owesLow d) -∗ Q ⟨⟩)
        ∗ boundary (SparseCore.T d) ∗ StableHlo.held (SparseCore.T d) (Pipeline.ucRefs τ sig) (VA d) ∗ owesLow d
        ∗ levAts (K (F := F)).L (K (F := F)).lev
        ∗ Pipeline.cellsGhost (Pipeline.pin (pcfgs (F := F)) adm) EP 0 d ∗ Pipeline.toksInit (Pipeline.pin (pcfgs (F := F)) adm) EP 0 d)
    ⊢ iprop((iprop(boundary (SparseCore.T d) ∗ (reg VA).post d) -∗ wp frame (wpE (Pipeline.defs (pcfgs (F := F)) defs₀) 𝒱₀.lift (SparseCore.T d) none) Set.univ
          (Prog.ret PUnit.unit) Q)
        ∗ boundary (SparseCore.T d) ∗ (reg VA).pre d ∗ levAts (K (F := F)).L (K (F := F)).lev
        ∗ Pipeline.cellsGhost (Pipeline.pin (pcfgs (F := F)) adm) EP 0 d ∗ Pipeline.toksInit (Pipeline.pin (pcfgs (F := F)) adm) EP 0 d)
  iintro ⟨Hk, Hb, Hh, HO, HL, Hg, Ht⟩
  isplitl [Hk]
  · iintro ⟨Hb, Hp⟩
    rw [wp_ret]
    imodintro
    iapply Hk
    isplitl [Hb]; · iexact Hb
    ihave Hp := (show (reg VA).post d ⊢ iprop(StableHlo.held (SparseCore.T d) (Pipeline.ucRefs τ sig) (Pipeline.afterRegion (dat VA d) (VA d)) ∗ owesLow d) from Entails.rfl) $$ Hp
    iexact Hp
  isplitl [Hb]; · iexact Hb
  isplitl [Hh HO]
  · iapply (show iprop(StableHlo.held (SparseCore.T d) (Pipeline.ucRefs τ sig) (VA d) ∗ owesLow d) ⊢ (reg VA).pre d from Entails.rfl)
    isplitl [Hh]; · iexact Hh
    iexact HO
  isplitl [HL]; · iexact HL
  isplitl [Hg]; · iexact Hg
  iexact Ht

end Cert.Proof.Select
-- ==== Proof.Parts.lean ====
module

public import proofs.«01_k».proof.Proof.Base

@[expose] public section

noncomputable section

namespace Cert.Proof.Select

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid1.Coords)

abbrev whole16 : Rect S16 := Rect.unit (s := S16) ![0] S16.size inb_S16_S16_0

theorem write_bF (f x : Vec F S16 .f32) : ((bF).access whole16).write (Elt F) f x Finset.univ = x := by
  have h := View.read_write_univ (v := (bF).access whole16) (Val := Elt F) f x
  have hr : ∀ g : Vec F S16 .f32, ((bF).access whole16).read (Elt F) g = g := fun g => by
    funext y
    show g (((bF).access whole16).emb y) = g y
    congr 1
    funext a; apply Fin.ext
    match a with
    | ⟨0, h0⟩ => show 0 + 1 * (y ⟨0, h0⟩).val = (y ⟨0, h0⟩).val; omega
  rw [hr] at h
  exact h

theorem write_bI (f x : Vec F S16 .i32) : ((bI).access whole16).write (Elt F) f x Finset.univ = x := by
  have h := View.read_write_univ (v := (bI).access whole16) (Val := Elt F) f x
  have hr : ∀ g : Vec F S16 .i32, ((bI).access whole16).read (Elt F) g = g := fun g => by
    funext y
    show g (((bI).access whole16).emb y) = g y
    congr 1
    funext a; apply Fin.ext
    match a with
    | ⟨0, h0⟩ => show 0 + 1 * (y ⟨0, h0⟩).val = (y ⟨0, h0⟩).val; omega
  rw [hr] at h
  exact h

/-! ## Sixteen-lane chunks of the vectors -/

/-- The index `k` of a vector. -/
abbrev at1 {N : ℕ} (k : Fin N) : (⟨1, ![N]⟩ : Shape).Idx := Shape.ofLane (d := ![N]) k

/-- Chunk `t` of a vector of 4096. -/
def chunk {e : EltTy} (s : Vec F S4096 e) (t : Fin 256) : Vec F S16 e := fun y => s (at1 (N := 4096) ⟨16 * t.val + (y 0).val, by have : (y 0).val < 16 := (y 0).isLt; omega⟩)

/-- Chunk `t` of a vector of 256. -/
def chunk256 {e : EltTy} (s : Vec F S256 e) (t : Fin 16) : Vec F S16 e := fun y => s (at1 (N := 256) ⟨16 * t.val + (y 0).val, by have : (y 0).val < 16 := (y 0).isLt; omega⟩)

/-- A vector of 4096 with chunk `t` replaced. -/
def setChunk {e : EltTy} (s : Vec F S4096 e) (t : Fin 256) (x : Vec F S16 e) : Vec F S4096 e :=
  fun j => if (j 0).val / 16 = t.val then x (at1 (N := 16) ⟨(j 0).val % 16, Nat.mod_lt _ (by decide)⟩) else s j

theorem trips1 : k1_t1_loop.trips = 256 := by decide +kernel
theorem trips2 : k1_t2_loop.trips = 16 := by decide +kernel
theorem trips3 : k1_t3_loop.trips = 64 := by decide +kernel
theorem trips4 : k1_t4_loop.trips = 256 := by decide +kernel

theorem idx1_ext {N : ℕ} {x y : (⟨1, ![N]⟩ : Shape).Idx} (h : (x 0).val = (y 0).val) : x = y := by
  funext a; apply Fin.ext
  match a with
  | ⟨0, _⟩ => exact h

theorem readAt_S (s : Vec F S4096 .f32) {off : Fin 1 → ℕ} {inb} (t : Fin 256) (h : off = ![16 * t.val]) :
    (bS).view.readAt (Elt F) (Rect.unit (s := S4096) off S16.size inb).toLoadRect s = chunk s t := by
  subst h
  funext y
  refine congrArg s (idx1_ext (N := 4096) ?_)
  show 16 * t.val + 1 * (y 0).val = 16 * t.val + (y 0).val
  omega

theorem write_S (s : Vec F S4096 .f32) {off : Fin 1 → ℕ} {inb} (t : Fin 256) (h : off = ![16 * t.val]) (x : Vec F S16 .f32) :
    ((bS).access (Rect.unit (s := S4096) off S16.size inb)).write (Elt F) s x Finset.univ = setChunk s t x := by
  subst h
  refine (View.write_whole_slice_unit (Val := Elt F) cc1_scratch0 ![16 * t.val] S16.size inb s x).trans ?_
  funext j
  unfold updateSlice setChunk
  by_cases hj : (j 0).val / 16 = t.val
  · rw [if_pos hj, dif_pos]
    · refine congrArg x (idx1_ext (N := 16) ?_)
      show (j 0).val - 16 * t.val = (j 0).val % 16
      omega
    · intro a
      match a with
      | ⟨0, _⟩ => show 16 * t.val ≤ (j 0).val ∧ (j 0).val < 16 * t.val + 16; omega
  · rw [if_neg hj, dif_neg]
    intro hc
    have h0 : 16 * t.val ≤ (j 0).val ∧ (j 0).val < 16 * t.val + 16 := hc 0
    omega

theorem readAt_M (s : Vec F S4096 .i32) {off : Fin 1 → ℕ} {inb} (t : Fin 256) (h : off = ![16 * t.val]) :
    (bM).view.readAt (Elt F) (Rect.unit (s := S4096) off S16.size inb).toLoadRect s = chunk s t := by
  subst h
  funext y
  refine congrArg s (idx1_ext (N := 4096) ?_)
  show 16 * t.val + 1 * (y 0).val = 16 * t.val + (y 0).val
  omega

theorem readAt_O (s : Vec F S4096 .i32) {off : Fin 1 → ℕ} {inb} (t : Fin 256) (h : off = ![16 * t.val]) :
    (bO).view.readAt (Elt F) (Rect.unit (s := S4096) off S16.size inb).toLoadRect s = chunk s t := by
  subst h
  funext y
  refine congrArg s (idx1_ext (N := 4096) ?_)
  show 16 * t.val + 1 * (y 0).val = 16 * t.val + (y 0).val
  omega

theorem readAt_C (s : Vec F S256 .f32) {off : Fin 1 → ℕ} {inb} (t : Fin 16) (h : off = ![16 * t.val]) :
    (bC).view.readAt (Elt F) (Rect.unit (s := S256) off S16.size inb).toLoadRect s = chunk256 s t := by
  subst h
  funext y
  refine congrArg s (idx1_ext (N := 256) ?_)
  show 16 * t.val + 1 * (y 0).val = 16 * t.val + (y 0).val
  omega

theorem write_O (s : Vec F S4096 .i32) {off : Fin 1 → ℕ} {inb} (t : Fin 256) (h : off = ![16 * t.val]) (x : Vec F S16 .i32) :
    ((bO).access (Rect.unit (s := S4096) off S16.size inb)).write (Elt F) s x Finset.univ = setChunk s t x := by
  subst h
  refine (View.write_whole_slice_unit (Val := Elt F) cc1_scratch3 ![16 * t.val] S16.size inb s x).trans ?_
  funext j
  unfold updateSlice setChunk
  by_cases hj : (j 0).val / 16 = t.val
  · rw [if_pos hj, dif_pos]
    · refine congrArg x (idx1_ext (N := 16) ?_)
      show (j 0).val - 16 * t.val = (j 0).val % 16
      omega
    · intro a
      match a with
      | ⟨0, _⟩ => show 16 * t.val ≤ (j 0).val ∧ (j 0).val < 16 * t.val + 16; omega
  · rw [if_neg hj, dif_neg]
    intro hc
    have h0 : 16 * t.val ≤ (j 0).val ∧ (j 0).val < 16 * t.val + 16 := hc 0
    omega

/-! ## The steps of the kernel's body, each on a buffer held whole -/

theorem passes {α : Type} {C : Prop} {dec : Decidable C} (hC : C) {k : PLift C → PR F d i α} {Q : α → sProp (MM F)} :
    WP d i (k ⟨hC⟩) Q ⊢ WP d i ((Prog.lift (TpuEff.assume C dec) : PR F d i _) >>= k) Q := wp_assume 𝒱₀ (tile d i) none Set.univ hC

theorem ldS {α : Type} {f : Vec F S4096 .f32} {off : Fin 1 → ℕ} {inb} (t : Fin 256) (ht : off = ![16 * t.val])
    {hl : (bS).view.LoadsAt (Rect.unit (s := S4096) off S16.size inb).toLoadRect} {k : Vec F S16 .f32 → PR F d i α} {Q : α → sProp (MM F)} :
    ((tile d i).loc cc1_scratch0 ↦{fullShare} f : sProp (MM F))
      ⊢ iprop((((tile d i).loc cc1_scratch0 ↦{fullShare} f) -∗ WP d i (k (chunk f t)) Q)
        -∗ WP d i ((Prog.lift (TpuEff.load bS (Rect.unit (s := S4096) off S16.size inb).toLoadRect hl) : PR F d i _) >>= k) Q) := by
  iintro H Hk
  iapply (wp_load 𝒱₀ (tile d i) none Set.univ (m := bS) (S := Finset.univ) (Finset.subset_univ _)) $$ H; iintro H
  rw [readAt_S f t ht]
  iapply Hk
  iexact H

theorem ldM {α : Type} {f : Vec F S4096 .i32} {off : Fin 1 → ℕ} {inb} (t : Fin 256) (ht : off = ![16 * t.val])
    {hl : (bM).view.LoadsAt (Rect.unit (s := S4096) off S16.size inb).toLoadRect} {k : Vec F S16 .i32 → PR F d i α} {Q : α → sProp (MM F)} :
    ((tile d i).loc cc1_scratch1 ↦{fullShare} f : sProp (MM F))
      ⊢ iprop((((tile d i).loc cc1_scratch1 ↦{fullShare} f) -∗ WP d i (k (chunk f t)) Q)
        -∗ WP d i ((Prog.lift (TpuEff.load bM (Rect.unit (s := S4096) off S16.size inb).toLoadRect hl) : PR F d i _) >>= k) Q) := by
  iintro H Hk
  iapply (wp_load 𝒱₀ (tile d i) none Set.univ (m := bM) (S := Finset.univ) (Finset.subset_univ _)) $$ H; iintro H
  rw [readAt_M f t ht]
  iapply Hk
  iexact H

theorem ldC {α : Type} {f : Vec F S256 .f32} {off : Fin 1 → ℕ} {inb} (t : Fin 16) (ht : off = ![16 * t.val])
    {hl : (bC).view.LoadsAt (Rect.unit (s := S256) off S16.size inb).toLoadRect} {k : Vec F S16 .f32 → PR F d i α} {Q : α → sProp (MM F)} :
    ((tile d i).loc cc1_scratch2 ↦{fullShare} f : sProp (MM F))
      ⊢ iprop((((tile d i).loc cc1_scratch2 ↦{fullShare} f) -∗ WP d i (k (chunk256 f t)) Q)
        -∗ WP d i ((Prog.lift (TpuEff.load bC (Rect.unit (s := S256) off S16.size inb).toLoadRect hl) : PR F d i _) >>= k) Q) := by
  iintro H Hk
  iapply (wp_load 𝒱₀ (tile d i) none Set.univ (m := bC) (S := Finset.univ) (Finset.subset_univ _)) $$ H; iintro H
  rw [readAt_C f t ht]
  iapply Hk
  iexact H

theorem ldO {α : Type} {f : Vec F S4096 .i32} {off : Fin 1 → ℕ} {inb} (t : Fin 256) (ht : off = ![16 * t.val])
    {hl : (bO).view.LoadsAt (Rect.unit (s := S4096) off S16.size inb).toLoadRect} {k : Vec F S16 .i32 → PR F d i α} {Q : α → sProp (MM F)} :
    ((tile d i).loc cc1_scratch3 ↦{fullShare} f : sProp (MM F))
      ⊢ iprop((((tile d i).loc cc1_scratch3 ↦{fullShare} f) -∗ WP d i (k (chunk f t)) Q)
        -∗ WP d i ((Prog.lift (TpuEff.load bO (Rect.unit (s := S4096) off S16.size inb).toLoadRect hl) : PR F d i _) >>= k) Q) := by
  iintro H Hk
  iapply (wp_load 𝒱₀ (tile d i) none Set.univ (m := bO) (S := Finset.univ) (Finset.subset_univ _)) $$ H; iintro H
  rw [readAt_O f t ht]
  iapply Hk
  iexact H

theorem stS {α : Type} {f : Vec F S4096 .f32} {off : Fin 1 → ℕ} {inb} (t : Fin 256) (ht : off = ![16 * t.val]) {x : Vec F S16 .f32}
    {hs : ((bS).access (Rect.unit (s := S4096) off S16.size inb)).Stores Finset.univ} {hm} {k : PUnit → PR F d i α} {Q : α → sProp (MM F)} :
    ((tile d i).loc cc1_scratch0 ↦{fullShare} f : sProp (MM F))
      ⊢ iprop((((tile d i).loc cc1_scratch0 ↦{fullShare} setChunk f t x) -∗ WP d i (k ⟨⟩) Q)
        -∗ WP d i ((Prog.lift (TpuEff.store bS (Rect.unit (s := S4096) off S16.size inb) x Finset.univ hs hm) : PR F d i _) >>= k) Q) := by
  iintro H Hk
  iapply (wp_store 𝒱₀ (tile d i) none Set.univ (m := bS) (r := Rect.unit (s := S4096) off S16.size inb) (Mk := Finset.univ) (S := Finset.univ) (Finset.subset_univ _)) $$ H; iintro H
  rw [write_S f t ht]
  iapply Hk
  iexact H

theorem stO {α : Type} {f : Vec F S4096 .i32} {off : Fin 1 → ℕ} {inb} (t : Fin 256) (ht : off = ![16 * t.val]) {x : Vec F S16 .i32}
    {hs : ((bO).access (Rect.unit (s := S4096) off S16.size inb)).Stores Finset.univ} {hm} {k : PUnit → PR F d i α} {Q : α → sProp (MM F)} :
    ((tile d i).loc cc1_scratch3 ↦{fullShare} f : sProp (MM F))
      ⊢ iprop((((tile d i).loc cc1_scratch3 ↦{fullShare} setChunk f t x) -∗ WP d i (k ⟨⟩) Q)
        -∗ WP d i ((Prog.lift (TpuEff.store bO (Rect.unit (s := S4096) off S16.size inb) x Finset.univ hs hm) : PR F d i _) >>= k) Q) := by
  iintro H Hk
  iapply (wp_store 𝒱₀ (tile d i) none Set.univ (m := bO) (r := Rect.unit (s := S4096) off S16.size inb) (Mk := Finset.univ) (S := Finset.univ) (Finset.subset_univ _)) $$ H; iintro H
  rw [write_O f t ht]
  iapply Hk
  iexact H

theorem putF {α : Type} {f x : Vec F S16 .f32} {hl : (bF).view.LoadsAt whole16.toLoadRect} {hs : ((bF).access whole16).Stores Finset.univ} {hm}
    {k : PUnit → PR F d i α} {Q : α → sProp (MM F)} :
    ((tile d i).loc cc1_scratch4 ↦{fullShare} f : sProp (MM F))
      ⊢ iprop((((tile d i).loc cc1_scratch4 ↦{fullShare} x) -∗ WP d i (k ⟨⟩) Q)
        -∗ WP d i ((Prog.lift (TpuEff.load bF whole16.toLoadRect hl) : PR F d i _) >>= fun _ => (Prog.lift (TpuEff.store bF whole16 x Finset.univ hs hm) : PR F d i _) >>= k) Q) := by
  iintro H Hk
  iapply (wp_load 𝒱₀ (tile d i) none Set.univ (m := bF) (S := Finset.univ) (Finset.subset_univ _)) $$ H; iintro H
  iapply (wp_store 𝒱₀ (tile d i) none Set.univ (m := bF) (r := whole16) (Mk := Finset.univ) (S := Finset.univ) (Finset.subset_univ _)) $$ H; iintro H
  rw [write_bF]
  iapply Hk
  iexact H

theorem putI {α : Type} {f x : Vec F S16 .i32} {hl : (bI).view.LoadsAt whole16.toLoadRect} {hs : ((bI).access whole16).Stores Finset.univ} {hm}
    {k : PUnit → PR F d i α} {Q : α → sProp (MM F)} :
    ((tile d i).loc cc1_scratch5 ↦{fullShare} f : sProp (MM F))
      ⊢ iprop((((tile d i).loc cc1_scratch5 ↦{fullShare} x) -∗ WP d i (k ⟨⟩) Q)
        -∗ WP d i ((Prog.lift (TpuEff.load bI whole16.toLoadRect hl) : PR F d i _) >>= fun _ => (Prog.lift (TpuEff.store bI whole16 x Finset.univ hs hm) : PR F d i _) >>= k) Q) := by
  iintro H Hk
  iapply (wp_load 𝒱₀ (tile d i) none Set.univ (m := bI) (S := Finset.univ) (Finset.subset_univ _)) $$ H; iintro H
  iapply (wp_store 𝒱₀ (tile d i) none Set.univ (m := bI) (r := whole16) (Mk := Finset.univ) (S := Finset.univ) (Finset.subset_univ _)) $$ H; iintro H
  rw [write_bI]
  iapply Hk
  iexact H

theorem getF {α : Type} {C : Prop} {dec : Decidable C} (hC : C) {x : Vec F S16 .f32} {idx : IVec S16 32}
    {hin : PLift C → ∀ a y, ((![idx]) a y).toNat < S16.size a} {hl : (bF).view.Loads} {k : PLift C → Vec F S16 .f32 → PR F d i α} {Q : α → sProp (MM F)} :
    ((tile d i).loc cc1_scratch4 ↦{fullShare} x : sProp (MM F))
      ⊢ iprop((((tile d i).loc cc1_scratch4 ↦{fullShare} x) -∗ WP d i (k ⟨hC⟩ (loadIdx (F := F) (e := .f32) (s := S16) x ![idx] (hin ⟨hC⟩))) Q)
        -∗ WP d i ((Prog.lift (TpuEff.assume C dec) : PR F d i _) >>= fun w => SparseCore.vectorLoadIdx bF ![idx] (hin w) hl >>= k w) Q) := by
  iintro H Hk
  iapply (wp_assume 𝒱₀ (tile d i) none Set.univ hC)
  iapply (SparseCore.wp_vectorLoadIdx 𝒱₀ (tile d i) none Set.univ (base := bF) (hl := hl) (k := k ⟨hC⟩) (S := Finset.univ) (q := fullShare) (Finset.subset_univ _)) $$ H; iintro H
  rw [show View.read (Elt F) ((bF).access (Rect.whole S16)) x = x from Memref.read_access_whole (Elt F) cc1_scratch4 x]
  iapply Hk
  iexact H

theorem getI {α : Type} {C : Prop} {dec : Decidable C} (hC : C) {x : Vec F S16 .i32} {idx : IVec S16 32}
    {hin : PLift C → ∀ a y, ((![idx]) a y).toNat < S16.size a} {hl : (bI).view.Loads} {k : PLift C → Vec F S16 .i32 → PR F d i α} {Q : α → sProp (MM F)} :
    ((tile d i).loc cc1_scratch5 ↦{fullShare} x : sProp (MM F))
      ⊢ iprop((((tile d i).loc cc1_scratch5 ↦{fullShare} x) -∗ WP d i (k ⟨hC⟩ (loadIdx (F := F) (e := .i32) (s := S16) x ![idx] (hin ⟨hC⟩))) Q)
        -∗ WP d i ((Prog.lift (TpuEff.assume C dec) : PR F d i _) >>= fun w => SparseCore.vectorLoadIdx bI ![idx] (hin w) hl >>= k w) Q) := by
  iintro H Hk
  iapply (wp_assume 𝒱₀ (tile d i) none Set.univ hC)
  iapply (SparseCore.wp_vectorLoadIdx 𝒱₀ (tile d i) none Set.univ (base := bI) (hl := hl) (k := k ⟨hC⟩) (S := Finset.univ) (q := fullShare) (Finset.subset_univ _)) $$ H; iintro H
  rw [show View.read (Elt F) ((bI).access (Rect.whole S16)) x = x from Memref.read_access_whole (Elt F) cc1_scratch5 x]
  iapply Hk
  iexact H

theorem getS {α : Type} {C : Prop} {dec : Decidable C} (hC : C) {x : Vec F S4096 .f32} {idx : IVec S16 32}
    {hin : PLift C → ∀ a y, ((![idx]) a y).toNat < S4096.size a} {hl : (bS).view.Loads} {k : PLift C → Vec F S16 .f32 → PR F d i α} {Q : α → sProp (MM F)} :
    ((tile d i).loc cc1_scratch0 ↦{fullShare} x : sProp (MM F))
      ⊢ iprop((((tile d i).loc cc1_scratch0 ↦{fullShare} x) -∗ WP d i (k ⟨hC⟩ (loadIdx (F := F) (e := .f32) (s := S4096) x ![idx] (hin ⟨hC⟩))) Q)
        -∗ WP d i ((Prog.lift (TpuEff.assume C dec) : PR F d i _) >>= fun w => SparseCore.vectorLoadIdx bS ![idx] (hin w) hl >>= k w) Q) := by
  iintro H Hk
  iapply (wp_assume 𝒱₀ (tile d i) none Set.univ hC)
  iapply (SparseCore.wp_vectorLoadIdx 𝒱₀ (tile d i) none Set.univ (base := bS) (hl := hl) (k := k ⟨hC⟩) (S := Finset.univ) (q := fullShare) (Finset.subset_univ _)) $$ H; iintro H
  rw [show View.read (Elt F) ((bS).access (Rect.whole S4096)) x = x from Memref.read_access_whole (Elt F) cc1_scratch0 x]
  iapply Hk
  iexact H

theorem getC {α : Type} {C : Prop} {dec : Decidable C} (hC : C) {x : Vec F S256 .f32} {idx : IVec S16 32}
    {hin : PLift C → ∀ a y, ((![idx]) a y).toNat < S256.size a} {hl : (bC).view.Loads} {k : PLift C → Vec F S16 .f32 → PR F d i α} {Q : α → sProp (MM F)} :
    ((tile d i).loc cc1_scratch2 ↦{fullShare} x : sProp (MM F))
      ⊢ iprop((((tile d i).loc cc1_scratch2 ↦{fullShare} x) -∗ WP d i (k ⟨hC⟩ (loadIdx (F := F) (e := .f32) (s := S256) x ![idx] (hin ⟨hC⟩))) Q)
        -∗ WP d i ((Prog.lift (TpuEff.assume C dec) : PR F d i _) >>= fun w => SparseCore.vectorLoadIdx bC ![idx] (hin w) hl >>= k w) Q) := by
  iintro H Hk
  iapply (wp_assume 𝒱₀ (tile d i) none Set.univ hC)
  iapply (SparseCore.wp_vectorLoadIdx 𝒱₀ (tile d i) none Set.univ (base := bC) (hl := hl) (k := k ⟨hC⟩) (S := Finset.univ) (q := fullShare) (Finset.subset_univ _)) $$ H; iintro H
  rw [show View.read (Elt F) ((bC).access (Rect.whole S256)) x = x from Memref.read_access_whole (Elt F) cc1_scratch2 x]
  iapply Hk
  iexact H

theorem setS {α : Type} {f : Vec F S4096 .f32} {x : Vec F S16 .f32} {idx : IVec S16 32} {mask : IVec S16 1}
    {hin : ∀ a y, ((![idx]) a y).toNat < S4096.size a} {hs : ((bS).access (.whole S4096)).Stores Finset.univ} {k : PUnit → PR F d i α} {Q : α → sProp (MM F)} :
    ((tile d i).loc cc1_scratch0 ↦{fullShare} f : sProp (MM F))
      ⊢ iprop((((tile d i).loc cc1_scratch0 ↦{fullShare} (storeIdx (F := F) (e := .f32) (s := S4096) f ![idx] x mask false hin)) -∗ WP d i (k ⟨⟩) Q)
        -∗ WP d i (SparseCore.vectorStoreIdx bS ![idx] x mask false hin hs >>= k) Q) := by
  have hset : ((bS).access (Rect.whole S4096)).set = Finset.univ := Memref.set_access_whole cc1_scratch0
  have h := SparseCore.wp_vectorStoreIdx (defs := defs₀ (F := F)) (Q := Q) (F := F) (Name := ℕ) (U := UU) (Ix := SparseCore.Cfg.HIx 1) (Lvl := ℕ) 𝒱₀ (tile d i) none Set.univ (base := bS) (idxs := ![idx]) (v := x) (mask := mask) (add := false) (h := hin) (hs := hs) (k := k) (f := f)
  rw [hset, show View.read (Elt F) ((bS).access (Rect.whole S4096)) f = f from Memref.read_access_whole (Elt F) cc1_scratch0 f,
    show ∀ w, View.write (Elt F) ((bS).access (Rect.whole S4096)) f w Finset.univ = w from Memref.write_access_whole_univ (Elt F) cc1_scratch0 f] at h
  exact h

theorem setC {α : Type} {f : Vec F S256 .f32} {x : Vec F S16 .f32} {idx : IVec S16 32} {mask : IVec S16 1}
    {hin : ∀ a y, ((![idx]) a y).toNat < S256.size a} {hs : ((bC).access (.whole S256)).Stores Finset.univ} {k : PUnit → PR F d i α} {Q : α → sProp (MM F)} :
    ((tile d i).loc cc1_scratch2 ↦{fullShare} f : sProp (MM F))
      ⊢ iprop((((tile d i).loc cc1_scratch2 ↦{fullShare} (storeIdx (F := F) (e := .f32) (s := S256) f ![idx] x mask false hin)) -∗ WP d i (k ⟨⟩) Q)
        -∗ WP d i (SparseCore.vectorStoreIdx bC ![idx] x mask false hin hs >>= k) Q) := by
  have hset : ((bC).access (Rect.whole S256)).set = Finset.univ := Memref.set_access_whole cc1_scratch2
  have h := SparseCore.wp_vectorStoreIdx (defs := defs₀ (F := F)) (Q := Q) (F := F) (Name := ℕ) (U := UU) (Ix := SparseCore.Cfg.HIx 1) (Lvl := ℕ) 𝒱₀ (tile d i) none Set.univ (base := bC) (idxs := ![idx]) (v := x) (mask := mask) (add := false) (h := hin) (hs := hs) (k := k) (f := f)
  rw [hset, show View.read (Elt F) ((bC).access (Rect.whole S256)) f = f from Memref.read_access_whole (Elt F) cc1_scratch2 f,
    show ∀ w, View.write (Elt F) ((bC).access (Rect.whole S256)) f w Finset.univ = w from Memref.write_access_whole_univ (Elt F) cc1_scratch2 f] at h
  exact h

end Cert.Proof.Select
-- ==== Proof.Steps.lean ====
module

public import proofs.«01_k».proof.Proof.Parts

@[expose] public section

noncomputable section

namespace Cert.Proof.Select

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid1.Coords) (r0 r1 r2 : DmaSems sig S_)

theorem done {α : Type} {x : α} {Q : α → sProp (MM F)} : Q x ⊢ WP d i (Pure.pure x : PR F d i α) Q := by
  show Q x ⊢ wp frame (wpE (defs₀ (F := F)) 𝒱₀ (tile d i) none) Set.univ (.ret x) Q
  rw [wp_ret]
  iintro H; imodintro; iexact H

/-- Each lane's partner read back from the scratch. -/
theorem swF {α : Type} (κ : BitVec 32) (hκ : κ.toNat < 16) {C : Prop} {dec : Decidable C} {x : Vec F S16 .f32} {idx : IVec S16 32} (hi : idx = partner κ)
    (hC : (∀ (a : Fin 1) (y : S16.Idx), ((![partner κ] : Fin 1 → IVec S16 32) a y).toNat < S16.size a) → C)
    {hin : PLift C → ∀ a y, ((![idx]) a y).toNat < S16.size a} {hl : (bF).view.Loads} {k : PLift C → Vec F S16 .f32 → PR F d i α} {Q : α → sProp (MM F)} :
    ((tile d i).loc cc1_scratch4 ↦{fullShare} x : sProp (MM F))
      ⊢ iprop((((tile d i).loc cc1_scratch4 ↦{fullShare} x) -∗ WP d i (k ⟨hC (partner_lt κ hκ)⟩ (swapped (F := F) (e := .f32) x κ hκ)) Q)
        -∗ WP d i ((Prog.lift (TpuEff.assume C dec) : PR F d i _) >>= fun w => SparseCore.vectorLoadIdx bF ![idx] (hin w) hl >>= k w) Q) := by
  subst hi
  exact getF (F := F) d i (hC (partner_lt κ hκ)) (x := x) (idx := partner κ) (hin := hin) (k := k)

/-- Each lane's partner read back from the scratch. -/
theorem swI {α : Type} (κ : BitVec 32) (hκ : κ.toNat < 16) {C : Prop} {dec : Decidable C} {x : Vec F S16 .i32} {idx : IVec S16 32} (hi : idx = partner κ)
    (hC : (∀ (a : Fin 1) (y : S16.Idx), ((![partner κ] : Fin 1 → IVec S16 32) a y).toNat < S16.size a) → C)
    {hin : PLift C → ∀ a y, ((![idx]) a y).toNat < S16.size a} {hl : (bI).view.Loads} {k : PLift C → Vec F S16 .i32 → PR F d i α} {Q : α → sProp (MM F)} :
    ((tile d i).loc cc1_scratch5 ↦{fullShare} x : sProp (MM F))
      ⊢ iprop((((tile d i).loc cc1_scratch5 ↦{fullShare} x) -∗ WP d i (k ⟨hC (partner_lt κ hκ)⟩ (swapped (F := F) (e := .i32) x κ hκ)) Q)
        -∗ WP d i ((Prog.lift (TpuEff.assume C dec) : PR F d i _) >>= fun w => SparseCore.vectorLoadIdx bI ![idx] (hin w) hl >>= k w) Q) := by
  subst hi
  exact getI (F := F) d i (hC (partner_lt κ hκ)) (x := x) (idx := partner κ) (hin := hin) (k := k)

/-- A gather at an index vector named by an equal one. -/
theorem gtC {α : Type} (idx' : IVec S16 32) (ok : ∀ (a : Fin 1) (y : S16.Idx), ((![idx'] : Fin 1 → IVec S16 32) a y).toNat < S256.size a)
    {C : Prop} {dec : Decidable C} {x : Vec F S256 .f32} {idx : IVec S16 32} (hi : idx = idx')
    (hC : (∀ (a : Fin 1) (y : S16.Idx), ((![idx] : Fin 1 → IVec S16 32) a y).toNat < S256.size a) → C)
    {hin : PLift C → ∀ a y, ((![idx]) a y).toNat < S256.size a} {hl : (bC).view.Loads} {k : PLift C → Vec F S16 .f32 → PR F d i α} {Q : α → sProp (MM F)} :
    ((tile d i).loc cc1_scratch2 ↦{fullShare} x : sProp (MM F))
      ⊢ iprop((((tile d i).loc cc1_scratch2 ↦{fullShare} x) -∗ WP d i (k ⟨hC (hi ▸ ok)⟩ (loadIdx (F := F) (e := .f32) (s := S256) x ![idx'] ok)) Q)
        -∗ WP d i ((Prog.lift (TpuEff.assume C dec) : PR F d i _) >>= fun w => SparseCore.vectorLoadIdx bC ![idx] (hin w) hl >>= k w) Q) := by
  subst hi
  exact getC (F := F) d i (hC ok) (x := x) (idx := idx) (hin := hin) (k := k)

/-- A gather at an index vector named by an equal one. -/
theorem gtS {α : Type} (idx' : IVec S16 32) (ok : ∀ (a : Fin 1) (y : S16.Idx), ((![idx'] : Fin 1 → IVec S16 32) a y).toNat < S4096.size a)
    {C : Prop} {dec : Decidable C} {x : Vec F S4096 .f32} {idx : IVec S16 32} (hi : idx = idx')
    (hC : (∀ (a : Fin 1) (y : S16.Idx), ((![idx] : Fin 1 → IVec S16 32) a y).toNat < S4096.size a) → C)
    {hin : PLift C → ∀ a y, ((![idx]) a y).toNat < S4096.size a} {hl : (bS).view.Loads} {k : PLift C → Vec F S16 .f32 → PR F d i α} {Q : α → sProp (MM F)} :
    ((tile d i).loc cc1_scratch0 ↦{fullShare} x : sProp (MM F))
      ⊢ iprop((((tile d i).loc cc1_scratch0 ↦{fullShare} x) -∗ WP d i (k ⟨hC (hi ▸ ok)⟩ (loadIdx (F := F) (e := .f32) (s := S4096) x ![idx'] ok)) Q)
        -∗ WP d i ((Prog.lift (TpuEff.assume C dec) : PR F d i _) >>= fun w => SparseCore.vectorLoadIdx bS ![idx] (hin w) hl >>= k w) Q) := by
  subst hi
  exact getS (F := F) d i (hC ok) (x := x) (idx := idx) (hin := hin) (k := k)

/-- A trip of the first pass as a chunk number. -/
abbrev t1 (t : Fin k1_t1_loop.trips) : Fin 256 := t.cast trips1

/-- The chunk number as a lane vector: where a chunk's maximum is scattered. -/
theorem pay25_eq (t : Fin k1_t1_loop.trips) : k1_pay25 lanes 0#32 1#32 t = broadcast S16 (BitVec.ofNat 32 t.val) := by
  funext y
  show lanes y * 0#32 + Scf.iv 0#32 1#32 t.val = BitVec.ofNat 32 t.val
  unfold Scf.iv
  simp

theorem pay25_lt (t : Fin k1_t1_loop.trips) : ∀ a y, ((![k1_pay25 lanes 0#32 1#32 t]) a y).toNat < S256.size a := by
  intro a y
  match a with
  | ⟨0, _⟩ =>
    show (k1_pay25 lanes 0#32 1#32 t y).toNat < 256
    rw [pay25_eq]
    show (BitVec.ofNat 32 t.val).toNat < 256
    have h : t.val < 256 := (t1 t).isLt
    rw [BitVec.toNat_ofNat]; omega

theorem part1 (h1 : k1_cond1 i = 1#1) (t : Fin k1_t1_loop.trips) (s : Vec F S4096 .f32) (a : Vec F S4096 .i32) (f : Vec F S16 .f32) :
    iprop(((tile d i).loc cc1_scratch0 ↦{fullShare} s) ∗ ((tile d i).loc cc1_scratch1 ↦{fullShare} a) ∗ ((tile d i).loc cc1_scratch4 ↦{fullShare} f) : sProp (MM F))
      ⊢ WP d i (k1_part1 i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) r0 r1 r2 h1 lanes 0#32 1#32 t)
          fun r => iprop(⌜∃ h, r = ⟨allMax (k1_pay16 (F := F) (chunk a (t1 t)) (chunk s (t1 t))), k1_pay25 lanes 0#32 1#32 t, h, k1_pay26⟩⌝
            ∗ ((tile d i).loc cc1_scratch0 ↦{fullShare} setChunk s (t1 t) (k1_pay16 (F := F) (chunk a (t1 t)) (chunk s (t1 t))))
            ∗ ((tile d i).loc cc1_scratch1 ↦{fullShare} a) ∗ (∃ f, (tile d i).loc cc1_scratch4 ↦{fullShare} f)) := by
  rw [k1_part1_eq_skeleton]; unfold k1_part1_skel
  have hoff : k1_off2 t = ![16 * (t1 t).val] := k1_off2_eq t
  iintro ⟨Hs, Hm, Hf⟩
  iapply (ldM d i (t1 t) hoff) $$ Hm; iintro Hm
  iapply (ldS d i (t1 t) hoff) $$ Hs; iintro Hs
  iapply (ldS d i (t1 t) hoff) $$ Hs; iintro Hs
  iapply (stS d i (t1 t) hoff) $$ Hs; iintro Hs
  iapply (putF d i (x := k1_pay16 (F := F) (chunk a (t1 t)) (chunk s (t1 t)))) $$ Hf; iintro Hf
  iapply (swF d i 1#32 (by decide) rfl (fun h _ => h)) $$ Hf; iintro Hf
  iapply (putF d i (x := maxW (k1_pay16 (F := F) (chunk a (t1 t)) (chunk s (t1 t))) 1#32)) $$ Hf; iintro Hf
  iapply (swF d i 2#32 (by decide) rfl (fun h _ => h)) $$ Hf; iintro Hf
  iapply (putF d i (x := maxW (maxW (k1_pay16 (F := F) (chunk a (t1 t)) (chunk s (t1 t))) 1#32) 2#32)) $$ Hf; iintro Hf
  iapply (swF d i 4#32 (by decide) rfl (fun h _ => h)) $$ Hf; iintro Hf
  iapply (putF d i (x := maxW (maxW (maxW (k1_pay16 (F := F) (chunk a (t1 t)) (chunk s (t1 t))) 1#32) 2#32) 4#32)) $$ Hf; iintro Hf
  iapply (swF d i 8#32 (by decide) rfl (fun h _ => h)) $$ Hf; iintro Hf
  iapply (passes d i (C := k1_chk5 i (k1_pay25 lanes 0#32 1#32 t)) fun _ => pay25_lt t)
  iapply (done d i)
  isplitr
  · ipureintro; exact ⟨_, rfl⟩
  isplitl [Hs]; · iexact Hs
  isplitl [Hm]; · iexact Hm
  iexists _; iexact Hf

theorem part2 (h1 : k1_cond1 i = 1#1) (t : Fin k1_t3_loop.trips) (cm2 f : Vec F S16 .f32) (g : Vec F S16 .i32) :
    iprop(((tile d i).loc cc1_scratch4 ↦{fullShare} f) ∗ ((tile d i).loc cc1_scratch5 ↦{fullShare} g) : sProp (MM F))
      ⊢ WP d i (k1_part2 i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) r0 r1 r2 h1 lanes 0#32 1#32 t cm2)
          fun r => iprop(⌜r = ⟨allMax cm2, minW F (minW F (hits cm2 (allMax cm2)) 1#32) 2#32⟩⌝ ∗ (∃ f, (tile d i).loc cc1_scratch4 ↦{fullShare} f) ∗ (∃ f, (tile d i).loc cc1_scratch5 ↦{fullShare} f)) := by
  rw [k1_part2_eq_skeleton]; unfold k1_part2_skel
  iintro ⟨Hf, Hi⟩
  iapply (putF d i (x := cm2)) $$ Hf; iintro Hf
  iapply (swF d i 1#32 (by decide) rfl (fun h _ => h)) $$ Hf; iintro Hf
  iapply (putF d i (x := maxW cm2 1#32)) $$ Hf; iintro Hf
  iapply (swF d i 2#32 (by decide) rfl (fun h _ => h)) $$ Hf; iintro Hf
  iapply (putF d i (x := maxW (maxW cm2 1#32) 2#32)) $$ Hf; iintro Hf
  iapply (swF d i 4#32 (by decide) rfl (fun h _ => h)) $$ Hf; iintro Hf
  iapply (putF d i (x := maxW (maxW (maxW cm2 1#32) 2#32) 4#32)) $$ Hf; iintro Hf
  iapply (swF d i 8#32 (by decide) rfl (fun h _ => h)) $$ Hf; iintro Hf
  iapply (putI d i (x := hits cm2 (allMax cm2))) $$ Hi; iintro Hi
  iapply (swI d i 1#32 (by decide) rfl (fun h _ => h)) $$ Hi; iintro Hi
  iapply (putI d i (x := minW F (hits cm2 (allMax cm2)) 1#32)) $$ Hi; iintro Hi
  iapply (swI d i 2#32 (by decide) rfl (fun h _ => h)) $$ Hi; iintro Hi
  iapply (done d i)
  isplitr
  · ipureintro; rfl
  isplitl [Hf]; · iexists _; iexact Hf
  iexists _; iexact Hi

theorem part3 (h1 : k1_cond1 i = 1#1) (v : Vec F S16 .f32) (w : IVec S16 32) (cm : Vec F S256 .f32) (g : Vec F S16 .i32)
    (ok : ∀ a y, ((![blockAt (minW F (minW F w 4#32) 8#32)]) a y).toNat < S256.size a) :
    iprop(((tile d i).loc cc1_scratch2 ↦{fullShare} cm) ∗ ((tile d i).loc cc1_scratch5 ↦{fullShare} g) : sProp (MM F))
      ⊢ WP d i (k1_part3 i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) r0 r1 r2 h1 lanes v w)
          fun r => iprop(⌜∃ h, r = ⟨minW F (minW F w 4#32) 8#32, blockAt (minW F (minW F w 4#32) 8#32), h, loadIdx cm ![blockAt (minW F (minW F w 4#32) 8#32)] ok,
              minW F (minW F (minW F (hits (loadIdx cm ![blockAt (minW F (minW F w 4#32) 8#32)] ok) v) 1#32) 2#32) 4#32, partner 8#32⟩⌝
            ∗ ((tile d i).loc cc1_scratch2 ↦{fullShare} cm) ∗ ((tile d i).loc cc1_scratch5 ↦{fullShare} minW F (minW F (minW F (hits (loadIdx cm ![blockAt (minW F (minW F w 4#32) 8#32)] ok) v) 1#32) 2#32) 4#32)) := by
  rw [k1_part3_eq_skeleton]; unfold k1_part3_skel
  iintro ⟨Hc, Hi⟩
  iapply (putI d i (x := w)) $$ Hi; iintro Hi
  iapply (swI d i 4#32 (by decide) rfl (fun h _ => h)) $$ Hi; iintro Hi
  iapply (putI d i (x := minW F w 4#32)) $$ Hi; iintro Hi
  iapply (swI d i 8#32 (by decide) rfl (fun h _ => h)) $$ Hi; iintro Hi
  iapply (gtC d i (blockAt (minW F (minW F w 4#32) 8#32)) ok ?e (fun h => ⟨fun _ => h, fun _ => h⟩)) $$ Hc
  case e => rfl
  iintro Hc
  iapply (putI d i (x := hits (loadIdx cm ![blockAt (minW F (minW F w 4#32) 8#32)] ok) v)) $$ Hi; iintro Hi
  iapply (swI d i 1#32 (by decide) rfl (fun h _ => h)) $$ Hi; iintro Hi
  iapply (putI d i (x := minW F (hits (loadIdx cm ![blockAt (minW F (minW F w 4#32) 8#32)] ok) v) 1#32)) $$ Hi; iintro Hi
  iapply (swI d i 2#32 (by decide) rfl (fun h _ => h)) $$ Hi; iintro Hi
  iapply (putI d i (x := minW F (minW F (hits (loadIdx cm ![blockAt (minW F (minW F w 4#32) 8#32)] ok) v) 1#32) 2#32)) $$ Hi; iintro Hi
  iapply (swI d i 4#32 (by decide) rfl (fun h _ => h)) $$ Hi; iintro Hi
  iapply (putI d i (x := minW F (minW F (minW F (hits (loadIdx cm ![blockAt (minW F (minW F w 4#32) 8#32)] ok) v) 1#32) 2#32) 4#32)) $$ Hi; iintro Hi
  iapply (done d i)
  isplitr
  · ipureintro; exact ⟨⟨fun _ => ok, fun _ => ok⟩, rfl⟩
  isplitl [Hc]; · iexact Hc
  iexact Hi

theorem part4 (h1 : k1_cond1 i = 1#1) (v : Vec F S16 .f32) (j w : IVec S16 32) (s : Vec F S4096 .f32)
    (ok : ∀ a y, ((![chunkAt j (minW F w 8#32)]) a y).toNat < S4096.size a) :
    iprop(((tile d i).loc cc1_scratch0 ↦{fullShare} s) ∗ ((tile d i).loc cc1_scratch5 ↦{fullShare} w) : sProp (MM F))
      ⊢ WP d i (k1_part4 i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) r0 r1 r2 h1 lanes v j w (partner 8#32))
          fun r => iprop(⌜r = ⟨knock (allMin F (hits (loadIdx s ![chunkAt j (minW F w 8#32)] ok) v)) (loadIdx s ![chunkAt j (minW F w 8#32)] ok), cmpi .eq lanes (minW F w 8#32)⟩⌝
            ∗ ((tile d i).loc cc1_scratch0 ↦{fullShare} storeIdx s ![chunkAt j (minW F w 8#32)] (knock (allMin F (hits (loadIdx s ![chunkAt j (minW F w 8#32)] ok) v)) (loadIdx s ![chunkAt j (minW F w 8#32)] ok)) (fun _ => 1#1) false ok)
            ∗ (∃ f, (tile d i).loc cc1_scratch5 ↦{fullShare} f)) := by
  rw [k1_part4_eq_skeleton]; unfold k1_part4_skel
  iintro ⟨Hs, Hi⟩
  iapply (swI d i 8#32 (by decide) rfl (fun h _ => h)) $$ Hi; iintro Hi
  iapply (gtS d i (chunkAt j (minW F w 8#32)) ok ?e (fun h => ⟨fun _ => h, fun _ => h⟩)) $$ Hs
  case e => rfl
  iintro Hs
  iapply (putI d i (x := hits (loadIdx s ![chunkAt j (minW F w 8#32)] ok) v)) $$ Hi; iintro Hi
  iapply (swI d i 1#32 (by decide) rfl (fun h _ => h)) $$ Hi; iintro Hi
  iapply (putI d i (x := minW F (hits (loadIdx s ![chunkAt j (minW F w 8#32)] ok) v) 1#32)) $$ Hi; iintro Hi
  iapply (swI d i 2#32 (by decide) rfl (fun h _ => h)) $$ Hi; iintro Hi
  iapply (putI d i (x := minW F (minW F (hits (loadIdx s ![chunkAt j (minW F w 8#32)] ok) v) 1#32) 2#32)) $$ Hi; iintro Hi
  iapply (swI d i 4#32 (by decide) rfl (fun h _ => h)) $$ Hi; iintro Hi
  iapply (putI d i (x := minW F (minW F (minW F (hits (loadIdx s ![chunkAt j (minW F w 8#32)] ok) v) 1#32) 2#32) 4#32)) $$ Hi; iintro Hi
  iapply (swI d i 8#32 (by decide) rfl (fun h _ => h)) $$ Hi; iintro Hi
  iapply (setS d i (idx := chunkAt j (minW F w 8#32)) (hin := ok) (x := knock (allMin F (hits (loadIdx s ![chunkAt j (minW F w 8#32)] ok) v)) (loadIdx s ![chunkAt j (minW F w 8#32)] ok))) $$ Hs; iintro Hs
  iapply (done d i)
  isplitr
  · ipureintro; rfl
  isplitl [Hs]; · iexact Hs
  iexists _; iexact Hi

theorem part5 (h1 : k1_cond1 i = 1#1) (j b : IVec S16 32) (hw) (cv x : Vec F S16 .f32) (l : IVec S16 32) (cm : Vec F S256 .f32) (f : Vec F S16 .f32)
    (ok : ∀ a y, ((![b]) a y).toNat < S256.size a) :
    iprop(((tile d i).loc cc1_scratch2 ↦{fullShare} cm) ∗ ((tile d i).loc cc1_scratch4 ↦{fullShare} f) : sProp (MM F))
      ⊢ WP d i (k1_part5 i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) r0 r1 r2 h1 lanes j b hw cv x (cmpi .eq lanes l))
          fun r => iprop(⌜r = ⟨cmpi .eq lanes j, maxW (maxW (putLane l (allMax x) cv) 1#32) 2#32, 4#32⟩⌝
            ∗ ((tile d i).loc cc1_scratch2 ↦{fullShare} storeIdx cm ![b] (putLane l (allMax x) cv) (fun _ => 1#1) false ok)
            ∗ ((tile d i).loc cc1_scratch4 ↦{fullShare} maxW (maxW (putLane l (allMax x) cv) 1#32) 2#32)) := by
  rw [k1_part5_eq_skeleton]; unfold k1_part5_skel
  iintro ⟨Hc, Hf⟩
  iapply (putF d i (x := x)) $$ Hf; iintro Hf
  iapply (swF d i 1#32 (by decide) rfl (fun h _ => h)) $$ Hf; iintro Hf
  iapply (putF d i (x := maxW x 1#32)) $$ Hf; iintro Hf
  iapply (swF d i 2#32 (by decide) rfl (fun h _ => h)) $$ Hf; iintro Hf
  iapply (putF d i (x := maxW (maxW x 1#32) 2#32)) $$ Hf; iintro Hf
  iapply (swF d i 4#32 (by decide) rfl (fun h _ => h)) $$ Hf; iintro Hf
  iapply (putF d i (x := maxW (maxW (maxW x 1#32) 2#32) 4#32)) $$ Hf; iintro Hf
  iapply (swF d i 8#32 (by decide) rfl (fun h _ => h)) $$ Hf; iintro Hf
  iapply (setC d i (hin := ok) (x := putLane l (allMax x) cv)) $$ Hc; iintro Hc
  iapply (putF d i (x := putLane l (allMax x) cv)) $$ Hf; iintro Hf
  iapply (swF d i 1#32 (by decide) rfl (fun h _ => h)) $$ Hf; iintro Hf
  iapply (putF d i (x := maxW (putLane l (allMax x) cv) 1#32)) $$ Hf; iintro Hf
  iapply (swF d i 2#32 (by decide) rfl (fun h _ => h)) $$ Hf; iintro Hf
  iapply (putF d i (x := maxW (maxW (putLane l (allMax x) cv) 1#32) 2#32)) $$ Hf; iintro Hf
  iapply (done d i)
  isplitr
  · ipureintro; rfl
  isplitl [Hc]; · iexact Hc
  iexact Hf

end Cert.Proof.Select
-- ==== Proof.Model.lean ====
/-
  What the tile computes, as functions of its buffers' contents: the four passes in closed form and the selection step.
-/
module

public import proofs.«01_k».proof.Proof.Parts

@[expose] public section

noncomputable section

namespace Cert.Proof.Select

open Cert.KernelIdeal Cert.KernelIdeal.Gen
open Idealize.ShloMosaic

variable {F : FTy → Type} [FloatOps F]

/-! ## Scatters of sixteen lanes, one element at a time -/

section Fold
variable {α β κ : Type}

theorem foldl_keep (P : κ → Prop) [DecidablePred P] (st : (β → α) → κ → β → α) (j : β) (v : κ → α)
    (hst : ∀ g k, st g k j = if P k then v k else g j) : ∀ (l : List κ) (f : β → α), (∀ k ∈ l, ¬P k) → l.foldl st f j = f j
  | [], _, _ => rfl
  | k :: l, f, h => by
    rw [List.foldl_cons, foldl_keep P st j v hst l _ fun k' hk' => h k' (List.mem_cons_of_mem _ hk'), hst, if_neg (h k List.mem_cons_self)]

theorem foldl_one (P : κ → Prop) [DecidablePred P] (st : (β → α) → κ → β → α) (j : β) (v : κ → α)
    (hst : ∀ g k, st g k j = if P k then v k else g j) (k0 : κ) (hk0 : P k0) :
    ∀ (l : List κ) (f : β → α), k0 ∈ l → (∀ k ∈ l, P k → k = k0) → l.foldl st f j = v k0
  | [], _, h, _ => absurd h List.not_mem_nil
  | k :: l, f, hm, hu => by
    rw [List.foldl_cons]
    by_cases hl : k0 ∈ l
    · exact foldl_one P st j v hst k0 hk0 l _ hl fun k' hk' => hu k' (List.mem_cons_of_mem _ hk')
    · have hk : k = k0 := by
        rcases List.mem_cons.mp hm with h | h
        · exact h.symm
        · exact absurd h hl
      subst hk
      rw [foldl_keep P st j v hst l _ (fun k' hk' hp => hl (hu k' (List.mem_cons_of_mem _ hk') hp ▸ hk')), hst, if_pos hk0]

end Fold

/-- One lane of a scatter, at one element. -/
theorem lane_step {N : ℕ} {e : EltTy} (idx : IVec S16 32) (v : Vec F S16 e) (mask : IVec S16 1)
    (h : ∀ (a : Fin 1) (y : S16.Idx), ((![idx] : Fin 1 → IVec S16 32) a y).toNat < (⟨1, ![N]⟩ : Shape).size a) (j : (⟨1, ![N]⟩ : Shape).Idx) (g : Vec F ⟨1, ![N]⟩ e) (k : Fin 16) :
    (if mask (at1 k) = 1 then fun j : (⟨1, ![N]⟩ : Shape).Idx => if (∀ a, (j a).val = (idxAt (s := ⟨1, ![N]⟩) ![idx] h (at1 k) a).val) then v (at1 k) else g j else g) j
      = if mask (at1 k) = 1 ∧ (j 0).val = (idx (at1 k)).toNat then v (at1 k) else g j := by
  by_cases hm : mask (at1 k) = 1
  · rw [if_pos hm]
    by_cases hk : (j 0).val = (idx (at1 k)).toNat
    · refine Eq.trans ?_ (if_pos (c := mask (at1 k) = 1 ∧ (j 0).val = (idx (at1 k)).toNat) ⟨hm, hk⟩).symm
      exact if_pos (c := ∀ a : Fin 1, (j a).val = (idxAt (s := ⟨1, ![N]⟩) ![idx] h (at1 k) a).val) fun a => by
        obtain rfl : a = 0 := Subsingleton.elim _ _
        exact hk
    · refine Eq.trans ?_ (if_neg (c := mask (at1 k) = 1 ∧ (j 0).val = (idx (at1 k)).toNat) fun h' => hk h'.2).symm
      exact if_neg (c := ∀ a : Fin 1, (j a).val = (idxAt (s := ⟨1, ![N]⟩) ![idx] h (at1 k) a).val) fun hk' => hk (hk' 0)
  · rw [if_neg hm]
    exact (if_neg (c := mask (at1 k) = 1 ∧ (j 0).val = (idx (at1 k)).toNat) fun h' => hm h'.1).symm

/-- What a scatter leaves at an element no set lane names. -/
theorem storeIdx_keep {N : ℕ} {e : EltTy} (f : Vec F ⟨1, ![N]⟩ e) (idx : IVec S16 32) (v : Vec F S16 e) (mask : IVec S16 1) (h : ∀ (a : Fin 1) (y : S16.Idx), ((![idx] : Fin 1 → IVec S16 32) a y).toNat < (⟨1, ![N]⟩ : Shape).size a)
    (j : (⟨1, ![N]⟩ : Shape).Idx) (hj : ∀ k : Fin 16, mask (at1 k) = 1 → (j 0).val ≠ (idx (at1 k)).toNat) : storeIdx f ![idx] v mask false h j = f j := by
  unfold storeIdx
  simp only [Bool.false_eq_true, if_false]
  exact foldl_keep (fun k : Fin 16 => mask (at1 k) = 1 ∧ (j 0).val = (idx (at1 k)).toNat) _ j (fun k => v (at1 k)) (fun g k => lane_step idx v mask h j g k) _ _
    fun k _ hk => hj k hk.1 hk.2

/-- What a scatter leaves at an element one set lane names. -/
theorem storeIdx_one {N : ℕ} {e : EltTy} (f : Vec F ⟨1, ![N]⟩ e) (idx : IVec S16 32) (v : Vec F S16 e) (mask : IVec S16 1) (h : ∀ (a : Fin 1) (y : S16.Idx), ((![idx] : Fin 1 → IVec S16 32) a y).toNat < (⟨1, ![N]⟩ : Shape).size a)
    (j : (⟨1, ![N]⟩ : Shape).Idx) (k0 : Fin 16) (h0 : mask (at1 k0) = 1) (hj0 : (j 0).val = (idx (at1 k0)).toNat)
    (hj : ∀ k : Fin 16, mask (at1 k) = 1 → (j 0).val = (idx (at1 k)).toNat → k = k0) : storeIdx f ![idx] v mask false h j = v (at1 k0) := by
  unfold storeIdx
  simp only [Bool.false_eq_true, if_false]
  exact foldl_one (fun k : Fin 16 => mask (at1 k) = 1 ∧ (j 0).val = (idx (at1 k)).toNat) _ j (fun k => v (at1 k)) (fun g k => lane_step idx v mask h j g k) k0 ⟨h0, hj0⟩ _ _
    (List.mem_finRange k0) fun k _ hk => hj k hk.1 hk.2

/-! ## The passes -/

/-- Minus infinity. -/
abbrev neg (F : FTy → Type) [FloatOps F] : F .f32 := Scalar.ofBits .f32 0xFF800000#32

/-- The scores with the masked positions at minus infinity. -/
def maskS (a : Vec F S4096 .i32) (s : Vec F S4096 .f32) : Vec F S4096 .f32 := fun j => if a j ≠ 0#32 then s j else neg F

/-- The largest of each chunk. -/
def maxC (s : Vec F S4096 .f32) : Vec F S256 .f32 := fun j => allMax (F := F) (chunk s (j 0)) (at1 (N := 16) 0)

/-- The largest of each block of chunk maxima. -/
def maxB (m : Vec F S256 .f32) : Vec F S16 .f32 := fun j => allMax (F := F) (chunk256 m (j 0)) j

/-- The mask the last pass writes. -/
def outO (s : Vec F S4096 .f32) : Vec F S4096 .i32 := fun j => if (j 0).val = 0 then 1#32 else if FloatOps.cmpf (φ := .f32) .oeq (s j) (neg F) = 1#1 then 1#32 else 0#32

/-- The first `n` chunks of `x` before the rest of `y`. -/
def upto {e : EltTy} (n : ℕ) (x y : Vec F S4096 e) : Vec F S4096 e := fun j => if (j 0).val / 16 < n then x j else y j

theorem upto_zero {e : EltTy} (x y : Vec F S4096 e) : upto 0 x y = y := by funext j; exact if_neg (Nat.not_lt_zero _)
theorem upto_all {e : EltTy} (x y : Vec F S4096 e) : upto 256 x y = x := by
  funext j; exact if_pos (by have : (j 0).val < 4096 := (j 0).isLt; omega)

theorem chunk_upto {e : EltTy} (x y : Vec F S4096 e) (t : Fin 256) : chunk (upto t.val x y) t = chunk y t := by
  funext z
  have hz : (z 0).val < 16 := (z 0).isLt
  exact if_neg (by show ¬(16 * t.val + (z 0).val) / 16 < t.val; omega)

theorem setChunk_upto {e : EltTy} (x y : Vec F S4096 e) (t : Fin 256) : setChunk (upto t.val x y) t (chunk x t) = upto (t.val + 1) x y := by
  funext j
  unfold setChunk upto
  by_cases h : (j 0).val / 16 = t.val
  · rw [if_pos h, if_pos (by omega)]
    refine congrArg x (idx1_ext (N := 4096) ?_)
    show 16 * t.val + (j 0).val % 16 = (j 0).val
    omega
  · rw [if_neg h]
    by_cases h2 : (j 0).val / 16 < t.val
    · rw [if_pos h2, if_pos (by omega)]
    · rw [if_neg h2, if_neg (by omega)]

theorem pay16_chunk (a : Vec F S4096 .i32) (s : Vec F S4096 .f32) (t : Fin 256) : k1_pay16 (F := F) (chunk a t) (chunk s t) = chunk (maskS a s) t := by
  funext y
  show Scalar.select (IntOp.cmpi .ne (chunk a t y) 0#32) (chunk s t y) (neg F) = if chunk a t y ≠ 0#32 then chunk s t y else neg F
  by_cases h : chunk a t y = 0#32
  · rw [if_neg (not_not.mpr h), h]; rfl
  · rw [if_pos h]
    have : IntOp.cmpi .ne (chunk a t y) 0#32 = 1#1 := by
      show BitVec.ofBool (chunk a t y != 0#32) = 1#1
      rw [bne_iff_ne.mpr h]; rfl
    rw [this]; rfl

/-- The first `n` chunk maxima before the rest of `y`. -/
def uptoC (n : ℕ) (x y : Vec F S256 .f32) : Vec F S256 .f32 := fun j => if (j 0).val < n then x j else y j

theorem uptoC_zero (x y : Vec F S256 .f32) : uptoC 0 x y = y := by funext j; exact if_neg (Nat.not_lt_zero _)
theorem uptoC_all (x y : Vec F S256 .f32) : uptoC 256 x y = x := by funext j; exact if_pos (j 0).isLt

theorem at1_zero_lane (k : Fin 16) : (k1_pay1 k1_pay26 (at1 (N := 16) k) = 1) ↔ k = 0 := by
  revert k; decide

theorem store_uptoC (s : Vec F S4096 .f32) (y : Vec F S256 .f32) (t : Fin 256) (idx : IVec S16 32) (hidx : idx = broadcast S16 (BitVec.ofNat 32 t.val)) (h) :
    storeIdx (uptoC t.val (maxC s) y) ![idx] (allMax (F := F) (chunk s t)) (k1_pay1 k1_pay26) false h = uptoC (t.val + 1) (maxC s) y := by
  have hv : ∀ k, (idx (at1 k)).toNat = t.val := fun k => by
    rw [hidx]; show (BitVec.ofNat 32 t.val).toNat = t.val
    rw [BitVec.toNat_ofNat]; have := t.isLt; omega
  funext j
  by_cases hj : (j 0).val = t.val
  · refine (storeIdx_one (N := 256) (e := .f32) _ idx _ _ h j 0 ((at1_zero_lane 0).mpr rfl) (hj.trans (hv 0).symm) (fun k hk _ => (at1_zero_lane k).mp hk)).trans ?_
    unfold uptoC maxC
    rw [if_pos (by omega)]
    have : (j 0) = t := Fin.ext hj
    rw [this]
  · refine (storeIdx_keep (N := 256) (e := .f32) _ idx _ _ h j (fun k _ => by rw [hv k]; exact hj)).trans ?_
    unfold uptoC
    by_cases h2 : (j 0).val < t.val
    · rw [if_pos h2, if_pos (by omega)]
    · rw [if_neg h2, if_neg (by omega)]

/-- The first `n` block maxima before minus infinity. -/
def uptoB (n : ℕ) (x : Vec F S16 .f32) : Vec F S16 .f32 := fun j => if (j 0).val < n then x j else neg F

theorem uptoB_zero (x : Vec F S16 .f32) : uptoB 0 x = k1_pay2 (F := F) := by funext j; exact if_neg (Nat.not_lt_zero _)
theorem uptoB_all (x : Vec F S16 .f32) : uptoB 16 x = x := by funext j; exact if_pos (j 0).isLt

theorem put_uptoB (m : Vec F S256 .f32) (t : Fin 16) (l : IVec S16 32) (hl : l = broadcast S16 (BitVec.ofNat 32 t.val)) :
    putLane l (allMax (F := F) (chunk256 m t)) (uptoB t.val (maxB m)) = uptoB (t.val + 1) (maxB m) := by
  funext j
  subst hl
  show Scalar.select (IntOp.cmpi .eq (lanes j) (BitVec.ofNat 32 t.val)) (allMax (F := F) (chunk256 m t) j) (uptoB t.val (maxB m) j) = _
  have hj16 : (j 0).val < 16 := (j 0).isLt
  have ht := t.isLt
  rw [lanes_apply]
  by_cases hj : (j 0).val = t.val
  · have e1 : IntOp.cmpi .eq (BitVec.ofNat 32 (j 0).val) (BitVec.ofNat 32 t.val) = 1#1 := by rw [hj]; simp [IntOp.cmpi]
    have e2 : (j 0) = t := Fin.ext hj
    unfold uptoB maxB
    rw [e1, e2, if_pos (Nat.lt_succ_self _)]; rfl
  · have e1 : IntOp.cmpi .eq (BitVec.ofNat 32 (j 0).val) (BitVec.ofNat 32 t.val) = 0#1 := by
      have hne : BitVec.ofNat 32 (j 0).val ≠ BitVec.ofNat 32 t.val := fun e => hj (by
        have := congrArg BitVec.toNat e
        rw [BitVec.toNat_ofNat, BitVec.toNat_ofNat] at this; omega)
      show BitVec.ofBool (BitVec.ofNat 32 (j 0).val == BitVec.ofNat 32 t.val) = 0#1
      rw [beq_eq_false_iff_ne.mpr hne]; rfl
    rw [e1]
    show uptoB t.val (maxB m) j = _
    unfold uptoB
    by_cases h2 : (j 0).val < t.val
    · rw [if_pos h2, if_pos (by omega)]
    · rw [if_neg h2, if_neg (by omega)]

theorem pay15_chunk (s : Vec F S4096 .f32) (t : Fin k1_t4_loop.trips) : k1_pay15 (F := F) t (chunk s (t.cast trips4)) = chunk (F := F) (e := .i32) (outO s) (t.cast trips4) := by
  funext y
  have hy : (y 0).val < 16 := (y 0).isLt
  have ht : t.val < 256 := (t.cast trips4).isLt
  have e0 : k1_pay15 (F := F) t (chunk s (t.cast trips4)) y
      = Scalar.select (IntOp.cmpi .eq (lanes y + Scf.iv 0#32 1#32 t.val) 0#32) 1#32 (Scalar.select (FloatOps.cmpf (φ := .f32) .oeq (chunk s (t.cast trips4) y) (neg F)) 1#32 0#32) := rfl
  have e00 : chunk (F := F) (e := .i32) (outO s) (t.cast trips4) y
      = if 16 * t.val + (y 0).val = 0 then 1#32 else if FloatOps.cmpf (φ := .f32) .oeq (chunk s (t.cast trips4) y) (neg F) = 1#1 then 1#32 else 0#32 := rfl
  rw [e0, e00]
  have e : lanes y + Scf.iv 0#32 1#32 t.val = BitVec.ofNat 32 ((y 0).val + t.val) := by
    rw [lanes_apply]; unfold Scf.iv; simp [BitVec.ofNat_add]
  rw [e]
  by_cases h0 : 16 * t.val + (y 0).val = 0
  · have : (y 0).val + t.val = 0 := by omega
    rw [if_pos h0, this]; rfl
  · have hne : BitVec.ofNat 32 ((y 0).val + t.val) ≠ 0#32 := fun e => h0 (by
      have := congrArg BitVec.toNat e
      rw [BitVec.toNat_ofNat] at this
      have h2 : (0#32).toNat = 0 := rfl
      omega)
    have e1 : IntOp.cmpi .eq (BitVec.ofNat 32 ((y 0).val + t.val)) 0#32 = 0#1 := by
      show BitVec.ofBool (BitVec.ofNat 32 ((y 0).val + t.val) == 0#32) = 0#1
      rw [beq_eq_false_iff_ne.mpr hne]; rfl
    rw [if_neg h0, e1]
    show Scalar.select (FloatOps.cmpf (φ := .f32) .oeq (chunk s (t.cast trips4) y) (neg F)) 1#32 0#32 = _
    rcases BitVec.eq_zero_or_eq_one (FloatOps.cmpf (φ := .f32) .oeq (chunk s (t.cast trips4) y) (neg F)) with h | h
    · rw [h, if_neg (by decide)]; rfl
    · rw [h, if_pos rfl]; rfl

/-! ## The selection step -/

/-- The scores, the chunk maxima and the block maxima. -/
structure St (F : FTy → Type) where
  s : Vec F S4096 .f32
  m : Vec F S256 .f32
  c : Vec F S16 .f32

/-- A gather, an index out of range taken at zero. -/
def gath {N : ℕ} (hN : 0 < N) (x : Vec F ⟨1, ![N]⟩ .f32) (idx : IVec S16 32) : Vec F S16 .f32 :=
  fun y => if h : (idx y).toNat < N then x (at1 ⟨(idx y).toNat, h⟩) else x (at1 ⟨0, hN⟩)

/-- A scatter of every lane; nothing where an index is out of range. -/
def scat {N : ℕ} (x : Vec F ⟨1, ![N]⟩ .f32) (idx : IVec S16 32) (v : Vec F S16 .f32) : Vec F ⟨1, ![N]⟩ .f32 :=
  open Classical in if h : ∀ (a : Fin 1) (y : S16.Idx), ((![idx] : Fin 1 → IVec S16 32) a y).toNat < (⟨1, ![N]⟩ : Shape).size a then storeIdx x ![idx] v (fun _ => 1#1) false h else x

theorem loadIdx_gath {N : ℕ} (hN : 0 < N) (x : Vec F ⟨1, ![N]⟩ .f32) (idx : IVec S16 32)
    (h : ∀ (a : Fin 1) (y : S16.Idx), ((![idx] : Fin 1 → IVec S16 32) a y).toNat < (⟨1, ![N]⟩ : Shape).size a) :
    loadIdx (F := F) (e := .f32) x ![idx] h = gath hN x idx := by
  funext y
  have hy : (idx y).toNat < N := h 0 y
  unfold gath
  rw [dif_pos hy]
  exact congrArg x (idx1_ext rfl)

theorem storeIdx_scat {N : ℕ} (x : Vec F ⟨1, ![N]⟩ .f32) (idx : IVec S16 32) (v : Vec F S16 .f32)
    (h : ∀ (a : Fin 1) (y : S16.Idx), ((![idx] : Fin 1 → IVec S16 32) a y).toNat < (⟨1, ![N]⟩ : Shape).size a) :
    storeIdx (F := F) (e := .f32) x ![idx] v (fun _ => 1#1) false h = scat x idx v := by
  unfold scat; rw [dif_pos h]

namespace St
variable (σ : St F)

/-- The value taken. -/
def v : Vec F S16 .f32 := allMax (F := F) σ.c
/-- The block it lies in. -/
def j : IVec S16 32 := allMin F (hits (F := F) σ.c σ.v)
/-- The block's chunk maxima. -/
def cv : Vec F S16 .f32 := gath (N := 256) (by decide) σ.m (blockAt σ.j)
/-- The chunk of the block. -/
def l : IVec S16 32 := allMin F (hits (F := F) σ.cv σ.v)
/-- The chunk's scores. -/
def sv : Vec F S16 .f32 := gath (N := 4096) (by decide) σ.s (chunkAt σ.j σ.l)
/-- The lane of the chunk. -/
def l2 : IVec S16 32 := allMin F (hits (F := F) σ.sv σ.v)
/-- The chunk's scores afterwards. -/
def sv' : Vec F S16 .f32 := knock (F := F) σ.l2 σ.sv
/-- The block's chunk maxima afterwards. -/
def cv' : Vec F S16 .f32 := putLane (F := F) σ.l (allMax (F := F) σ.sv') σ.cv

/-- The indices the step names are in range. -/
def Good : Prop := (∀ y, (blockAt σ.j y).toNat < 256) ∧ ∀ y, (chunkAt σ.j σ.l y).toNat < 4096

/-- One selection. -/
def step : St F := ⟨scat (N := 4096) σ.s (chunkAt σ.j σ.l) σ.sv', scat (N := 256) σ.m (blockAt σ.j) σ.cv', putLane (F := F) σ.j (allMax (F := F) σ.cv') σ.c⟩

/-- `n` selections. -/
def run (n : ℕ) : St F := step^[n] σ

theorem run_succ (n : ℕ) : σ.run (n + 1) = (σ.run n).step := Function.iterate_succ_apply' _ _ _

end St

/-- The state the selections start from. -/
def st0 (a : Vec F S4096 .i32) (s : Vec F S4096 .f32) : St F := ⟨maskS a s, maxC (maskS a s), maxB (maxC (maskS a s))⟩

/-- The selections of a row name only indices in range. -/
def OkRow (a : Vec F S4096 .i32) (s : Vec F S4096 .f32) : Prop := ∀ n < 64, ((st0 a s).run n).Good

/-- What a tile writes of a row. -/
def rowOut (a : Vec F S4096 .i32) (s : Vec F S4096 .f32) : Vec F S4096 .i32 := outO ((st0 a s).run 64).s

end Cert.Proof.Select
-- ==== Proof.Trips.lean ====
/-
  One trip of each of the tile's four loops, from the buffers' contents to the buffers' contents.
-/
module

public import proofs.«01_k».proof.Proof.Steps
public import proofs.«01_k».proof.Proof.Model

@[expose] public section

noncomputable section

namespace Cert.Proof.Select

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid1.Coords) (r0 r1 r2 : DmaSems sig S_)

/-- One program after another. -/
theorem seqW {α β : Type} {p : PR F d i α} {k : α → PR F d i β} {P : sProp (MM F)} {Q : α → sProp (MM F)} {R : β → sProp (MM F)}
    (h : P ⊢ WP d i p Q) : P ⊢ iprop((∀ r, Q r -∗ WP d i (k r) R) -∗ WP d i (p >>= k) R) := by
  unfold WP
  rw [wp_bind]
  iintro H Hk
  iapply (wp_wand_r frame (wpE (defs₀ (F := F)) 𝒱₀ (tile d i) none) Set.univ)
  isplitl [H]
  · iapply h; iexact H
  · iintro %r Hr; iapply Hk; iexact Hr

abbrev ownF (F : FTy → Type) [FloatOps F] (d : Dev nD) (i : grid1.Coords) : sProp (MM F) := iprop(∃ f, (tile d i).loc cc1_scratch4 ↦{fullShare} f)
abbrev ownI (F : FTy → Type) [FloatOps F] (d : Dev nD) (i : grid1.Coords) : sProp (MM F) := iprop(∃ f, (tile d i).loc cc1_scratch5 ↦{fullShare} f)

/-- A trip of the first pass. -/
theorem trip1 (h1 : k1_cond1 i = 1#1) (t : Fin k1_t1_loop.trips) (s : Vec F S4096 .f32) (a : Vec F S4096 .i32) (m : Vec F S256 .f32) :
    iprop(((tile d i).loc cc1_scratch0 ↦{fullShare} upto t.val (maskS a s) s) ∗ ((tile d i).loc cc1_scratch1 ↦{fullShare} a)
        ∗ ((tile d i).loc cc1_scratch2 ↦{fullShare} uptoC t.val (maxC (maskS a s)) m) ∗ ownF F d i : sProp (MM F))
      ⊢ WP d i (k1_t1_body i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) r0 r1 r2 h1 lanes t ⟨⟩)
          fun _ => iprop(((tile d i).loc cc1_scratch0 ↦{fullShare} upto (t.val + 1) (maskS a s) s) ∗ ((tile d i).loc cc1_scratch1 ↦{fullShare} a)
            ∗ ((tile d i).loc cc1_scratch2 ↦{fullShare} uptoC (t.val + 1) (maxC (maskS a s)) m) ∗ ownF F d i) := by
  unfold k1_t1_body
  iintro ⟨Hs, Hm, Hc, ⟨%f, Hf⟩⟩
  iapply (seqW d i (part1 d i r0 r1 r2 h1 t _ a f)) $$ [Hs Hm Hf]
  · isplitl [Hs]; · iexact Hs
    isplitl [Hm]; · iexact Hm
    iexact Hf
  iintro %r ⟨%hr, Hs, Hm, Hf⟩
  obtain ⟨h, rfl⟩ := hr
  have e1 : k1_pay16 (F := F) (chunk a (t1 t)) (chunk (upto t.val (maskS a s) s) (t1 t)) = chunk (maskS a s) (t1 t) := by
    rw [show t.val = (t1 t).val from rfl, chunk_upto, pay16_chunk]
  rw [e1]
  iapply (setC d i (f := uptoC t.val (maxC (maskS a s)) m) (x := allMax (chunk (maskS a s) (t1 t))) (idx := k1_pay25 lanes 0#32 1#32 t) (mask := k1_pay1 k1_pay26) (hin := k1_idx5_inb i _ h h1)) $$ Hc; iintro Hc
  iapply (done d i)
  isplitl [Hs]
  · rw [show t.val = (t1 t).val from rfl, setChunk_upto]; iexact Hs
  isplitl [Hm]; · iexact Hm
  isplitl [Hc]
  · have e2 := store_uptoC (F := F) (maskS a s) m (t1 t) _ (pay25_eq t) (k1_idx5_inb i _ h h1)
    rw [← show uptoC ((t1 t).val + 1) (maxC (maskS a s)) m = uptoC (t.val + 1) (maxC (maskS a s)) m from rfl, ← e2]
    iexact Hc
  iexact Hf

/-- A trip of the second pass. -/
theorem trip2 (h1 : k1_cond1 i = 1#1) (t : Fin k1_t2_loop.trips) (m : Vec F S256 .f32) :
    iprop(((tile d i).loc cc1_scratch2 ↦{fullShare} m) ∗ ownF F d i : sProp (MM F))
      ⊢ WP d i (k1_t2_body i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) r0 r1 r2 h1 t (uptoB t.val (maxB m)))
          fun r => iprop(⌜r = uptoB (t.val + 1) (maxB m)⌝ ∗ ((tile d i).loc cc1_scratch2 ↦{fullShare} m) ∗ ownF F d i) := by
  unfold k1_t2_body
  have hoff : k1_off3 t = ![16 * (t.cast trips2).val] := k1_off3_eq t
  iintro ⟨Hc, ⟨%f, Hf⟩⟩
  iapply (ldC d i (t.cast trips2) hoff) $$ Hc; iintro Hc
  iapply (putF d i (x := chunk256 m (t.cast trips2))) $$ Hf; iintro Hf
  iapply (swF d i 1#32 (by decide) rfl (fun h _ => h)) $$ Hf; iintro Hf
  iapply (putF d i (x := maxW (chunk256 (F := F) (e := .f32) m (t.cast trips2)) 1#32)) $$ Hf; iintro Hf
  iapply (swF d i 2#32 (by decide) rfl (fun h _ => h)) $$ Hf; iintro Hf
  iapply (putF d i (x := maxW (maxW (chunk256 (F := F) (e := .f32) m (t.cast trips2)) 1#32) 2#32)) $$ Hf; iintro Hf
  iapply (swF d i 4#32 (by decide) rfl (fun h _ => h)) $$ Hf; iintro Hf
  iapply (putF d i (x := maxW (maxW (maxW (chunk256 (F := F) (e := .f32) m (t.cast trips2)) 1#32) 2#32) 4#32)) $$ Hf; iintro Hf
  iapply (swF d i 8#32 (by decide) rfl (fun h _ => h)) $$ Hf; iintro Hf
  iapply (done d i)
  isplitr
  · ipureintro
    refine Eq.trans ?_ (put_uptoB m (t.cast trips2) (broadcast S16 (Scf.iv 0#32 1#32 t.val)) ?_)
    · rfl
    · funext y; show Scf.iv 0#32 1#32 t.val = BitVec.ofNat 32 t.val; unfold Scf.iv; simp
  isplitl [Hc]; · iexact Hc
  iexists _; iexact Hf

/-- The block's part of a selection, its values named. -/
theorem part3' (h1 : k1_cond1 i = 1#1) (v : Vec F S16 .f32) (w j : IVec S16 32) (hj : minW F (minW F w 4#32) 8#32 = j) (cm : Vec F S256 .f32) (g : Vec F S16 .i32)
    (ok : ∀ (a : Fin 1) (y : S16.Idx), ((![blockAt j] : Fin 1 → IVec S16 32) a y).toNat < S256.size a) (cv : Vec F S16 .f32) (hcv : loadIdx (F := F) (e := .f32) (s := S256) cm ![blockAt j] ok = cv) :
    iprop(((tile d i).loc cc1_scratch2 ↦{fullShare} cm) ∗ ((tile d i).loc cc1_scratch5 ↦{fullShare} g) : sProp (MM F))
      ⊢ WP d i (k1_part3 i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) r0 r1 r2 h1 lanes v w)
          fun r => iprop(⌜∃ h, r = ⟨j, blockAt j, h, cv, minW F (minW F (minW F (hits (F := F) cv v) 1#32) 2#32) 4#32, partner 8#32⟩⌝
            ∗ ((tile d i).loc cc1_scratch2 ↦{fullShare} cm) ∗ ((tile d i).loc cc1_scratch5 ↦{fullShare} minW F (minW F (minW F (hits (F := F) cv v) 1#32) 2#32) 4#32)) := by
  subst hj hcv
  exact part3 d i r0 r1 r2 h1 v w cm g ok

/-- The chunk's part of a selection, its values named. -/
theorem part4' (h1 : k1_cond1 i = 1#1) (v : Vec F S16 .f32) (j w l : IVec S16 32) (hl : minW F w 8#32 = l) (s : Vec F S4096 .f32)
    (ok : ∀ (a : Fin 1) (y : S16.Idx), ((![chunkAt j l] : Fin 1 → IVec S16 32) a y).toNat < S4096.size a) (sv sv' : Vec F S16 .f32) (hsv : loadIdx (F := F) (e := .f32) (s := S4096) s ![chunkAt j l] ok = sv)
    (hsv' : knock (F := F) (allMin F (hits (F := F) sv v)) sv = sv') :
    iprop(((tile d i).loc cc1_scratch0 ↦{fullShare} s) ∗ ((tile d i).loc cc1_scratch5 ↦{fullShare} w) : sProp (MM F))
      ⊢ WP d i (k1_part4 i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) r0 r1 r2 h1 lanes v j w (partner 8#32))
          fun r => iprop(⌜r = ⟨sv', cmpi .eq lanes l⟩⌝
            ∗ ((tile d i).loc cc1_scratch0 ↦{fullShare} storeIdx (F := F) (e := .f32) (s := S4096) s ![chunkAt j l] sv' (fun _ => 1#1) false ok)
            ∗ (∃ f, (tile d i).loc cc1_scratch5 ↦{fullShare} f)) := by
  subst hl hsv hsv'
  exact part4 d i r0 r1 r2 h1 v j w s ok

/-- A trip of the selection, its values named. -/
theorem trip3' (h1 : k1_cond1 i = 1#1) (t : Fin k1_t3_loop.trips) (s : Vec F S4096 .f32) (m : Vec F S256 .f32) (c v : Vec F S16 .f32) (hv : allMax (F := F) c = v)
    (j : IVec S16 32) (hj : allMin F (hits (F := F) c v) = j) (okC : ∀ (a : Fin 1) (y : S16.Idx), ((![blockAt j] : Fin 1 → IVec S16 32) a y).toNat < S256.size a) (cv : Vec F S16 .f32) (hcv : loadIdx (F := F) (e := .f32) (s := S256) m ![blockAt j] okC = cv)
    (l : IVec S16 32) (hl : allMin F (hits (F := F) cv v) = l) (okS : ∀ (a : Fin 1) (y : S16.Idx), ((![chunkAt j l] : Fin 1 → IVec S16 32) a y).toNat < S4096.size a) (sv sv' : Vec F S16 .f32) (hsv : loadIdx (F := F) (e := .f32) (s := S4096) s ![chunkAt j l] okS = sv)
    (hsv' : knock (F := F) (allMin F (hits (F := F) sv v)) sv = sv') :
    iprop(((tile d i).loc cc1_scratch0 ↦{fullShare} s) ∗ ((tile d i).loc cc1_scratch2 ↦{fullShare} m) ∗ ownF F d i ∗ ownI F d i : sProp (MM F))
      ⊢ WP d i (k1_t3_body i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) r0 r1 r2 h1 lanes t c)
          fun r => iprop(⌜r = putLane (F := F) j (allMax (F := F) (putLane (F := F) l (allMax (F := F) sv') cv)) c⌝
            ∗ ((tile d i).loc cc1_scratch0 ↦{fullShare} storeIdx (F := F) (e := .f32) (s := S4096) s ![chunkAt j l] sv' (fun _ => 1#1) false okS)
            ∗ ((tile d i).loc cc1_scratch2 ↦{fullShare} storeIdx (F := F) (e := .f32) (s := S256) m ![blockAt j] (putLane (F := F) l (allMax (F := F) sv') cv) (fun _ => 1#1) false okC)
            ∗ ownF F d i ∗ ownI F d i) := by
  unfold k1_t3_body
  iintro ⟨Hs, Hc, ⟨%f, Hf⟩, ⟨%g, Hi⟩⟩
  iapply (seqW d i (part2 d i r0 r1 r2 h1 t c f g)) $$ [Hf Hi]
  · isplitl [Hf]; · iexact Hf
    iexact Hi
  iintro %r ⟨%hr, ⟨%f, Hf⟩, ⟨%g, Hi⟩⟩
  rw [hv] at hr
  subst hr
  have p3 := part3' d i r0 r1 r2 h1 v (minW F (minW F (hits (F := F) c v) 1#32) 2#32) j hj m g okC cv hcv
  iapply (seqW d i p3) $$ [Hc Hi]
  · isplitl [Hc]; · iexact Hc
    iexact Hi
  iintro %r ⟨%hr, Hc, Hi⟩
  obtain ⟨hw, rfl⟩ := hr
  have p4 := part4' d i r0 r1 r2 h1 v j (minW F (minW F (minW F (hits (F := F) cv v) 1#32) 2#32) 4#32) l hl s okS sv sv' hsv hsv'
  iapply (seqW d i p4) $$ [Hs Hi]
  · isplitl [Hs]; · iexact Hs
    iexact Hi
  iintro %r ⟨%hr, Hs, ⟨%g, Hi⟩⟩
  subst hr
  iapply (seqW d i (part5 d i r0 r1 r2 h1 j (blockAt j) hw cv sv' l m f okC)) $$ [Hc Hf]
  · isplitl [Hc]; · iexact Hc
    iexact Hf
  iintro %r ⟨%hr, Hc, Hf⟩
  subst hr
  iapply (swF d i 4#32 (by decide) rfl (fun h _ => h)) $$ Hf; iintro Hf
  iapply (putF d i (x := maxW (maxW (maxW (putLane l (allMax (F := F) sv') cv) 1#32) 2#32) 4#32)) $$ Hf; iintro Hf
  iapply (swF d i 8#32 (by decide) rfl (fun h _ => h)) $$ Hf; iintro Hf
  iapply (done d i)
  isplitr
  · ipureintro; rfl
  isplitl [Hs]; · iexact Hs
  isplitl [Hc]; · iexact Hc
  isplitl [Hf]; · iexists _; iexact Hf
  iexists _; iexact Hi

theorem St.step_s (σ : St F) : σ.step.s = scat (N := 4096) σ.s (chunkAt σ.j σ.l) σ.sv' := by unfold St.step; with_reducible rfl
theorem St.step_m (σ : St F) : σ.step.m = scat (N := 256) σ.m (blockAt σ.j) (putLane (F := F) σ.l (allMax (F := F) σ.sv') σ.cv) := by unfold St.step St.cv'; with_reducible rfl
theorem St.step_c (σ : St F) : σ.step.c = putLane (F := F) σ.j (allMax (F := F) (putLane (F := F) σ.l (allMax (F := F) σ.sv') σ.cv)) σ.c := by unfold St.step St.cv'; with_reducible rfl

/-- A trip of the selection. -/
theorem trip3 (h1 : k1_cond1 i = 1#1) (t : Fin k1_t3_loop.trips) (σ : St F) (hσ : σ.Good) :
    iprop(((tile d i).loc cc1_scratch0 ↦{fullShare} σ.s) ∗ ((tile d i).loc cc1_scratch2 ↦{fullShare} σ.m) ∗ ownF F d i ∗ ownI F d i : sProp (MM F))
      ⊢ WP d i (k1_t3_body i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) r0 r1 r2 h1 lanes t σ.c)
          fun r => iprop(⌜r = σ.step.c⌝ ∗ ((tile d i).loc cc1_scratch0 ↦{fullShare} σ.step.s) ∗ ((tile d i).loc cc1_scratch2 ↦{fullShare} σ.step.m) ∗ ownF F d i ∗ ownI F d i) := by
  have okC : ∀ (a : Fin 1) (y : S16.Idx), ((![blockAt σ.j] : Fin 1 → IVec S16 32) a y).toNat < S256.size a := fun a y => by
    obtain rfl : a = 0 := Subsingleton.elim _ _
    exact hσ.1 y
  have okS : ∀ (a : Fin 1) (y : S16.Idx), ((![chunkAt σ.j σ.l] : Fin 1 → IVec S16 32) a y).toNat < S4096.size a := fun a y => by
    obtain rfl : a = 0 := Subsingleton.elim _ _
    exact hσ.2 y
  have ecv : loadIdx (F := F) (e := .f32) (s := S256) σ.m ![blockAt σ.j] okC = σ.cv := loadIdx_gath (N := 256) (by decide) σ.m _ okC
  have esv : loadIdx (F := F) (e := .f32) (s := S4096) σ.s ![chunkAt σ.j σ.l] okS = σ.sv := loadIdx_gath (N := 4096) (by decide) σ.s _ okS
  have es := storeIdx_scat (F := F) (N := 4096) σ.s (chunkAt σ.j σ.l) σ.sv' okS
  have em := storeIdx_scat (F := F) (N := 256) σ.m (blockAt σ.j) (putLane (F := F) σ.l (allMax (F := F) σ.sv') σ.cv) okC
  rw [St.step_s, St.step_m, St.step_c, ← es, ← em]
  exact trip3' d i r0 r1 r2 h1 t σ.s σ.m σ.c σ.v (by unfold St.v; with_reducible rfl) σ.j (by unfold St.j; with_reducible rfl) okC σ.cv ecv σ.l (by unfold St.l; with_reducible rfl) okS σ.sv σ.sv' esv
    (by unfold St.sv' St.l2; with_reducible rfl)

/-- A trip of the last pass. -/
theorem trip4 (h1 : k1_cond1 i = 1#1) (t : Fin k1_t4_loop.trips) (s : Vec F S4096 .f32) (o : Vec F S4096 .i32) :
    iprop(((tile d i).loc cc1_scratch0 ↦{fullShare} s) ∗ ((tile d i).loc cc1_scratch3 ↦{fullShare} upto (F := F) (e := .i32) t.val (outO s) o) : sProp (MM F))
      ⊢ WP d i (k1_t4_body i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) r0 r1 r2 h1 t ⟨⟩)
          fun _ => iprop(((tile d i).loc cc1_scratch0 ↦{fullShare} s) ∗ ((tile d i).loc cc1_scratch3 ↦{fullShare} upto (F := F) (e := .i32) (t.val + 1) (outO s) o)) := by
  unfold k1_t4_body
  have hoff : k1_off4 t = ![16 * (t.cast trips4).val] := k1_off4_eq t
  iintro ⟨Hs, Ho⟩
  iapply (ldS d i (t.cast trips4) hoff) $$ Hs; iintro Hs
  iapply (ldO d i (t.cast trips4) hoff) $$ Ho; iintro Ho
  rw [pay15_chunk]
  iapply (stO d i (t.cast trips4) hoff) $$ Ho; iintro Ho
  iapply (done d i)
  isplitl [Hs]; · iexact Hs
  rw [show t.val = (t.cast trips4).val from rfl, setChunk_upto]
  iexact Ho

end Cert.Proof.Select
-- ==== Proof.Loops.lean ====
/-
  The tile's four loops, each from the buffers' contents before it to the buffers' contents after it.
-/
module

public import proofs.«01_k».proof.Proof.Trips

@[expose] public section

noncomputable section

namespace Cert.Proof.Select

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid1.Coords) (r0 r1 r2 : DmaSems sig S_)

/-- A counted loop by its invariant. -/
theorem loopW {σ : Type} {w : ℕ} (l : Scf.Loop w) (hok : l.OK) (init : σ) (body : Fin l.trips → σ → PR F d i σ) (I : ℕ → σ → sProp (MM F))
    (hb : ∀ k acc, I k.val acc ⊢ WP d i (body k acc) (I (k.val + 1))) :
    I 0 init ⊢ WP d i (Scf.Loop.for l hok init body) (I l.trips) := by
  iintro H
  iapply (Scf.wp_for frame (wpE (defs₀ (F := F)) 𝒱₀ (tile d i) none) Set.univ l.lb l.ub l.st hok init body I hb)
  isplitl [H]; · iexact H
  iintro %r H; iexact H

/-- The first pass: the scores masked, the maximum of every chunk. -/
theorem loop1 (h1 : k1_cond1 i = 1#1) (s : Vec F S4096 .f32) (a : Vec F S4096 .i32) (m : Vec F S256 .f32) :
    iprop(((tile d i).loc cc1_scratch0 ↦{fullShare} s) ∗ ((tile d i).loc cc1_scratch1 ↦{fullShare} a) ∗ ((tile d i).loc cc1_scratch2 ↦{fullShare} m) ∗ ownF F d i : sProp (MM F))
      ⊢ WP d i (Scf.Loop.for k1_t1_loop (k1_t1_ok i h1) ⟨⟩ (k1_t1_body i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) r0 r1 r2 h1 lanes))
          fun _ => iprop(((tile d i).loc cc1_scratch0 ↦{fullShare} maskS a s) ∗ ((tile d i).loc cc1_scratch1 ↦{fullShare} a) ∗ ((tile d i).loc cc1_scratch2 ↦{fullShare} maxC (maskS a s)) ∗ ownF F d i) := by
  have h := loopW d i k1_t1_loop (k1_t1_ok i h1) (⟨⟩ : Unit) (k1_t1_body (F := F) i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) r0 r1 r2 h1 lanes)
    (fun n _ => iprop(((tile d i).loc cc1_scratch0 ↦{fullShare} upto n (maskS a s) s) ∗ ((tile d i).loc cc1_scratch1 ↦{fullShare} a) ∗ ((tile d i).loc cc1_scratch2 ↦{fullShare} uptoC n (maxC (maskS a s)) m) ∗ ownF F d i))
    (fun k _ => trip1 d i r0 r1 r2 h1 k s a m)
  simp only [trips1, upto_zero, uptoC_zero, upto_all, uptoC_all] at h
  exact h

/-- The second pass: the maximum of every block. -/
theorem loop2 (h1 : k1_cond1 i = 1#1) (m : Vec F S256 .f32) :
    iprop(((tile d i).loc cc1_scratch2 ↦{fullShare} m) ∗ ownF F d i : sProp (MM F))
      ⊢ WP d i (Scf.Loop.for k1_t2_loop (k1_t2_ok i h1) (k1_pay2 (F := F)) (k1_t2_body i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) r0 r1 r2 h1))
          fun r => iprop(⌜r = maxB m⌝ ∗ ((tile d i).loc cc1_scratch2 ↦{fullShare} m) ∗ ownF F d i) := by
  have h := loopW d i k1_t2_loop (k1_t2_ok i h1) (k1_pay2 (F := F)) (k1_t2_body (F := F) i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) r0 r1 r2 h1)
    (fun n r => iprop(⌜r = uptoB n (maxB m)⌝ ∗ ((tile d i).loc cc1_scratch2 ↦{fullShare} m) ∗ ownF F d i)) ?_
  · simp only [trips2, uptoB_zero, uptoB_all] at h
    refine BIBase.Entails.trans ?_ h
    iintro ⟨Hm, Hf⟩
    isplitr; · ipureintro; trivial
    isplitl [Hm]; · iexact Hm
    iexact Hf
  · intro k acc
    iintro ⟨%e, Hm, Hf⟩
    subst e
    iapply (trip2 d i r0 r1 r2 h1 k m)
    isplitl [Hm]; · iexact Hm
    iexact Hf

/-- The selections: sixty-four steps of the functional model. -/
theorem loop3 (h1 : k1_cond1 i = 1#1) (σ : St F) (hσ : ∀ n < 64, (σ.run n).Good) :
    iprop(((tile d i).loc cc1_scratch0 ↦{fullShare} σ.s) ∗ ((tile d i).loc cc1_scratch2 ↦{fullShare} σ.m) ∗ ownF F d i ∗ ownI F d i : sProp (MM F))
      ⊢ WP d i (Scf.Loop.for k1_t3_loop (k1_t3_ok i h1) σ.c (k1_t3_body i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) r0 r1 r2 h1 lanes))
          fun _ => iprop(((tile d i).loc cc1_scratch0 ↦{fullShare} (σ.run 64).s) ∗ ((tile d i).loc cc1_scratch2 ↦{fullShare} (σ.run 64).m) ∗ ownF F d i ∗ ownI F d i) := by
  have h := loopW d i k1_t3_loop (k1_t3_ok i h1) σ.c (k1_t3_body (F := F) i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) r0 r1 r2 h1 lanes)
    (fun n r => iprop(⌜r = (σ.run n).c⌝ ∗ ((tile d i).loc cc1_scratch0 ↦{fullShare} (σ.run n).s) ∗ ((tile d i).loc cc1_scratch2 ↦{fullShare} (σ.run n).m) ∗ ownF F d i ∗ ownI F d i)) ?_
  · simp only [trips3] at h
    refine (BIBase.Entails.trans ?_ h).trans (wp_mono frame _ _ fun _ => ?_)
    · iintro ⟨Hs, Hm, Hf, Hi⟩
      isplitr; · ipureintro; rfl
      isplitl [Hs]; · iexact Hs
      isplitl [Hm]; · iexact Hm
      isplitl [Hf]; · iexact Hf
      iexact Hi
    · iintro ⟨-, H⟩; iexact H
  · intro k acc
    iintro ⟨%e, H⟩
    subst e
    have hk : k.val < 64 := Nat.lt_of_lt_of_le k.isLt trips3.le
    rw [St.run_succ]
    iapply (trip3 d i r0 r1 r2 h1 k (σ.run k.val) (hσ k.val hk))
    iexact H

/-- The last pass: the marks. -/
theorem loop4 (h1 : k1_cond1 i = 1#1) (s : Vec F S4096 .f32) (o : Vec F S4096 .i32) :
    iprop(((tile d i).loc cc1_scratch0 ↦{fullShare} s) ∗ ((tile d i).loc cc1_scratch3 ↦{fullShare} o) : sProp (MM F))
      ⊢ WP d i (Scf.Loop.for k1_t4_loop (k1_t4_ok i h1) ⟨⟩ (k1_t4_body i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) r0 r1 r2 h1))
          fun _ => iprop(((tile d i).loc cc1_scratch0 ↦{fullShare} s) ∗ ((tile d i).loc cc1_scratch3 ↦{fullShare} outO s)) := by
  have h := loopW d i k1_t4_loop (k1_t4_ok i h1) (⟨⟩ : Unit) (k1_t4_body (F := F) i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) r0 r1 r2 h1)
    (fun n _ => iprop(((tile d i).loc cc1_scratch0 ↦{fullShare} s) ∗ ((tile d i).loc cc1_scratch3 ↦{fullShare} upto (F := F) (e := .i32) n (outO s) o)))
    (fun k _ => trip4 d i r0 r1 r2 h1 k s o)
  have e0 : upto (F := F) (e := .i32) 0 (outO s) o = o := upto_zero _ _
  have e1 : upto (F := F) (e := .i32) 256 (outO s) o = outO s := upto_all _ _
  rw [trips4] at h
  simp only [e0, e1] at h
  exact h

end Cert.Proof.Select
-- ==== Proof.Rows.lean ====
/-
  The rows of the flat arrays the tiles work on, and a tile's own buffers and semaphores.
-/
module

public import proofs.«01_k».proof.Proof.Loops

@[expose] public section

noncomputable section

namespace Cert.Proof.Select

open Cert.KernelIdeal Cert.KernelIdeal.Gen
open Idealize.ShloMosaic
open Idealize.ShloMosaic.SparseCore (S V T)
open Idealize.ShloMosaic.SparseCore.Cfg (HIx Pay ownSems0 ownCells mem_ownCells ownBufs ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## Rows of the flat arrays -/

/-- The elements of row `w`. -/
def rowSet (w : ℕ) : Finset S16384.Idx := Finset.univ.filter fun j => (j 0).val / 4096 = w

/-- Row `w` of a flat array. -/
def rowAt {α : Type} (x : S16384.Idx → α) (w : ℕ) : S4096.Idx → α :=
  fun j => x (at1 (N := 16384) ⟨(4096 * w + (j 0).val) % 16384, Nat.mod_lt _ (by decide)⟩)

/-- Every row's marks, as one flat array. -/
def outBuf (sc : Vec F S16384 .f32) (mk : Vec F S16384 .i32) : Vec F S16384 .i32 :=
  fun j => rowOut (F := F) (rowAt mk ((j 0).val / 4096)) (rowAt sc ((j 0).val / 4096)) (at1 (N := 4096) ⟨(j 0).val % 4096, Nat.mod_lt _ (by decide)⟩)

/-- The row a tile works on. -/
abbrev wid (c s : ℕ) : ℕ := 2 * s + c

theorem cond_iff : ∀ i : grid1.Coords, k1_cond1 i = 1#1 ↔ wid (i 0).val (i 1).val < 4 := by decide +kernel

theorem rowSet_empty {w : ℕ} (h : 4 ≤ w) : rowSet w = ∅ := by
  refine Finset.filter_eq_empty_iff.mpr fun j _ e => ?_
  have hj : (j 0).val < 16384 := (j 0).isLt
  omega

section Rows

variable (d : Dev nD) (i : grid1.Coords) (h1 : k1_cond1 i = 1#1)

abbrev rowR : Rect S16384 := Rect.unit (s := S16384) (k1_off1 i) S4096.size (k1_off1_inb i h1)
abbrev hbSr : Memref sig .scVector .hbm S4096 .f32 := hbS.slice (rowR i h1) (fun _ => rfl)
abbrev hbMr : Memref sig .scVector .hbm S4096 .i32 := hbM.slice (rowR i h1) (fun _ => rfl)
abbrev hbOr : Memref sig .scVector .hbm S4096 .i32 := hbO.slice (rowR i h1) (fun _ => rfl)

theorem rowR_set : (rowR i h1).set = rowSet (wid (i 0).val (i 1).val) := by
  ext j
  have hj : (j 0).val < 16384 := (j 0).isLt
  rw [Rect.mem_set_unit, rowSet, Finset.mem_filter]
  simp only [k1_off1_eq, wid]
  constructor
  · intro h
    have h0 := h 0
    simp only [Matrix.cons_val_zero] at h0
    have hs : S4096.size 0 = 4096 := rfl
    refine ⟨Finset.mem_univ _, ?_⟩
    omega
  · rintro ⟨-, h⟩ a
    obtain rfl : a = 0 := Subsingleton.elim _ _
    simp only [Matrix.cons_val_zero]
    have hs : S4096.size 0 = 4096 := rfl
    omega

theorem rowR_emb (x : S4096.Idx) : (rowR i h1).emb x = at1 (N := 16384) ⟨(4096 * wid (i 0).val (i 1).val + (x 0).val) % 16384, Nat.mod_lt _ (by decide)⟩ := by
  apply idx1_ext
  have hx : (x 0).val < 4096 := (x 0).isLt
  have hw := (cond_iff i).mp h1
  have e : ((rowR i h1).emb x 0).val = k1_off1 i 0 + 1 * (x 0).val := rfl
  rw [e, k1_off1_eq]
  show 8192 * (i 1).val + 4096 * (i 0).val + 1 * (x 0).val = (4096 * wid (i 0).val (i 1).val + (x 0).val) % 16384
  unfold wid at *
  rw [Nat.mod_eq_of_lt (by omega)]; omega

theorem rowReadS (f : Vec F S16384 .f32) : (hbSr i h1).view.read (Elt F) f = rowAt (α := F .f32) f (wid (i 0).val (i 1).val) := by
  funext x
  refine (View.read_apply _ _).trans ((cast_eq _ _).trans ?_)
  exact congrArg f (rowR_emb i h1 x)
theorem rowReadM (f : Vec F S16384 .i32) : (hbMr i h1).view.read (Elt F) f = rowAt (α := BitVec 32) f (wid (i 0).val (i 1).val) := by
  funext x
  refine (View.read_apply _ _).trans ((cast_eq _ _).trans ?_)
  exact congrArg f (rowR_emb i h1 x)

theorem rowWrite (fo : Vec F S16384 .i32) (sc : Vec F S16384 .f32) (mk : Vec F S16384 .i32) :
    ∀ j ∈ rowSet (wid (i 0).val (i 1).val), (hbOr i h1).view.write (Elt F) fo
      (rowOut (F := F) (rowAt mk (wid (i 0).val (i 1).val)) (rowAt sc (wid (i 0).val (i 1).val))) Finset.univ j = outBuf sc mk j := by
  intro j hj
  rw [← rowR_set i h1, ← Rect.map_emb_univ] at hj
  obtain ⟨x, -, rfl⟩ := Finset.mem_map.mp hj
  refine ((hbOr i h1).view.write_emb_of_mem fo _ (Finset.mem_univ x)).trans ((cast_eq _ _).trans ?_)
  have hx : (x 0).val < 4096 := (x 0).isLt
  have hw := (cond_iff i).mp h1
  have e := rowR_emb i h1 x
  have e0 : ((rowR i h1).emb x 0).val = 4096 * wid (i 0).val (i 1).val + (x 0).val := by
    rw [e]; exact Nat.mod_eq_of_lt (by omega)
  unfold outBuf
  have e1 : ((rowR i h1).emb x 0).val / 4096 = wid (i 0).val (i 1).val := by omega
  have e2 : ((rowR i h1).emb x 0).val % 4096 = (x 0).val := by omega
  rw [e1]
  refine congrArg _ (idx1_ext ?_)
  exact e2.symm

end Rows

/-! ## The tile's own buffers and semaphores -/

section Own

variable (d : Dev nD) (i : grid1.Coords)

/-- The tile's other buffers, and its other semaphores. -/
def restBufs (F : FTy → Type) [FloatOps F] (d : Dev nD) (i : grid1.Coords) : sProp (MM F) := bigSep (((((((ownRefs (τ := τ) (.scVector ((i 0).castLE hcore1) ((i 1).castLE hsub1))).erase ((Proc.scVector ((i 0).castLE hcore1) ((i 1).castLE hsub1)).devRef cc1_scratch0)).erase ((Proc.scVector ((i 0).castLE hcore1) ((i 1).castLE hsub1)).devRef cc1_scratch1)).erase ((Proc.scVector ((i 0).castLE hcore1) ((i 1).castLE hsub1)).devRef cc1_scratch2)).erase ((Proc.scVector ((i 0).castLE hcore1) ((i 1).castLE hsub1)).devRef cc1_scratch3)).erase ((Proc.scVector ((i 0).castLE hcore1) ((i 1).castLE hsub1)).devRef cc1_scratch4)).erase ((Proc.scVector ((i 0).castLE hcore1) ((i 1).castLE hsub1)).devRef cc1_scratch5)) fun b => iprop(∃ f, ((d, b) : Loc nD τ sig) ↦{fullShare} f)
def restSems (F : FTy → Type) [FloatOps F] (d : Dev nD) (i : grid1.Coords) : sProp (MM F) := bigSep ((((ownCells (tile d i)).erase (((tile d i), SemLoc.dma cc1_scoped0.sem) : GSem nD τ sig)).erase (((tile d i), SemLoc.dma cc1_scoped1.sem) : GSem nD τ sig)).erase (((tile d i), SemLoc.dma cc1_scoped2.sem) : GSem nD τ sig)) fun g => semVal g 0

theorem own_sems : (ownSems0 (tile d i) : sProp (MM F)) = iprop(semVal (((tile d i), SemLoc.dma cc1_scoped0.sem) : GSem nD τ sig) 0 ∗ semVal (((tile d i), SemLoc.dma cc1_scoped1.sem) : GSem nD τ sig) 0 ∗ semVal (((tile d i), SemLoc.dma cc1_scoped2.sem) : GSem nD τ sig) 0 ∗ restSems F d i) := by
  unfold SparseCore.Cfg.ownSems0 restSems
  rw [SparseCore.bigSep_erase' ((mem_ownCells (g := (((tile d i), SemLoc.dma cc1_scoped0.sem) : GSem nD τ sig))).mpr ⟨rfl, by show (SemLoc.dma cc1_scoped0.sem : SemLoc sig).isScoped .scVector = true; decide⟩),
    SparseCore.bigSep_erase' (Finset.mem_erase.mpr ⟨fun e => absurd (Prod.mk.inj e).2 (by decide), (mem_ownCells (g := (((tile d i), SemLoc.dma cc1_scoped1.sem) : GSem nD τ sig))).mpr ⟨rfl, by show (SemLoc.dma cc1_scoped1.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := (((tile d i), SemLoc.dma cc1_scoped2.sem) : GSem nD τ sig))).mpr ⟨rfl, by show (SemLoc.dma cc1_scoped2.sem : SemLoc sig).isScoped .scVector = true; decide⟩⟩⟩)]

theorem own_bufs : (ownBufs (tile d i) : sProp (MM F)) = iprop((∃ f, (tile d i).loc cc1_scratch0 ↦{fullShare} f) ∗ (∃ f, (tile d i).loc cc1_scratch1 ↦{fullShare} f) ∗ (∃ f, (tile d i).loc cc1_scratch2 ↦{fullShare} f) ∗ (∃ f, (tile d i).loc cc1_scratch3 ↦{fullShare} f) ∗ (∃ f, (tile d i).loc cc1_scratch4 ↦{fullShare} f) ∗ (∃ f, (tile d i).loc cc1_scratch5 ↦{fullShare} f)
    ∗ restBufs F d i) := by
  unfold SparseCore.Cfg.ownBufs restBufs
  refine (SparseCore.bigSep_erase' (SparseCore.Cfg.mem_ownRefs_of_owner (p := (Proc.scVector ((i 0).castLE hcore1) ((i 1).castLE hsub1))) (b := (Proc.scVector ((i 0).castLE hcore1) ((i 1).castLE hsub1)).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := (Proc.scVector ((i 0).castLE hcore1) ((i 1).castLE hsub1))) (b := (Proc.scVector ((i 0).castLE hcore1) ((i 1).castLE hsub1)).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := (Proc.scVector ((i 0).castLE hcore1) ((i 1).castLE hsub1))) (b := (Proc.scVector ((i 0).castLE hcore1) ((i 1).castLE hsub1)).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := (Proc.scVector ((i 0).castLE hcore1) ((i 1).castLE hsub1))) (b := (Proc.scVector ((i 0).castLE hcore1) ((i 1).castLE hsub1)).devRef cc1_scratch3) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := (Proc.scVector ((i 0).castLE hcore1) ((i 1).castLE hsub1))) (b := (Proc.scVector ((i 0).castLE hcore1) ((i 1).castLE hsub1)).devRef cc1_scratch4) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := (Proc.scVector ((i 0).castLE hcore1) ((i 1).castLE hsub1))) (b := (Proc.scVector ((i 0).castLE hcore1) ((i 1).castLE hsub1)).devRef cc1_scratch5) rfl⟩⟩⟩⟩⟩)]

end Own

end Cert.Proof.Select
-- ==== Proof.Tile.lean ====
/-
  A tile's whole task: the row of scores and the row of the mask copied in, the four loops, the row of marks copied out.
-/
module

public import proofs.«01_k».proof.Proof.Rows

@[expose] public section

noncomputable section

namespace Cert.Proof.Select

open Cert.KernelIdeal Cert.KernelIdeal.Gen
open Idealize.ShloMosaic
open Idealize.ShloMosaic.SparseCore (S V T)
open Idealize.ShloMosaic.SparseCore.Cfg (HIx Pay ownSems0 ownCells mem_ownCells ownBufs ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid1.Coords)

abbrev sLoc (d : Dev nD) : Loc nD τ sig := (SparseCore.T d).loc main_v6
abbrev aLoc (d : Dev nD) : Loc nD τ sig := (SparseCore.T d).loc main_v7
abbrev oLoc (d : Dev nD) : Loc nD τ sig := (SparseCore.T d).loc main_v8

/-- What the tile of row `w` is handed: the row of scores, the row of the mask, the row of marks. -/
def rowIn (sc : Vec F S16384 .f32) (mk fo : Vec F S16384 .i32) (d : Dev nD) (w : ℕ) : sProp (MM F) :=
  iprop((sLoc d ↦[rowSet w]{fullShare} sc) ∗ (aLoc d ↦[rowSet w]{fullShare} mk) ∗ oLoc d ↦[rowSet w]{fullShare} fo)

theorem pts_S (h1 : k1_cond1 i = 1#1) (f : Vec F S16384 .f32) :
    ((hbSr i h1).view.loc (tile d i) ↦[(hbSr i h1).view.set]{fullShare} f : sProp (MM F)) = sLoc d ↦[rowSet (wid (i 0).val (i 1).val)]{fullShare} f := by
  rw [show (hbSr i h1).view.set = rowSet (wid (i 0).val (i 1).val) from (View.set_slice_whole _ _).trans (rowR_set i h1)]
theorem pts_A (h1 : k1_cond1 i = 1#1) (f : Vec F S16384 .i32) :
    ((hbMr i h1).view.loc (tile d i) ↦[(hbMr i h1).view.set]{fullShare} f : sProp (MM F)) = aLoc d ↦[rowSet (wid (i 0).val (i 1).val)]{fullShare} f := by
  rw [show (hbMr i h1).view.set = rowSet (wid (i 0).val (i 1).val) from (View.set_slice_whole _ _).trans (rowR_set i h1)]
theorem pts_O (h1 : k1_cond1 i = 1#1) (f : Vec F S16384 .i32) :
    ((hbOr i h1).view.loc (tile d i) ↦[(hbOr i h1).view.set]{fullShare} f : sProp (MM F)) = oLoc d ↦[rowSet (wid (i 0).val (i 1).val)]{fullShare} f := by
  rw [show (hbOr i h1).view.set = rowSet (wid (i 0).val (i 1).val) from (View.set_slice_whole _ _).trans (rowR_set i h1)]
theorem pts_bS (f : Vec F S4096 .f32) :
    (bS.view.loc (tile d i) ↦[bS.view.set]{fullShare} f : sProp (MM F)) = (tile d i).loc cc1_scratch0 ↦{fullShare} f := by
  simp only [Memref.view_whole, View.set_whole]
theorem pts_bM (f : Vec F S4096 .i32) :
    (bM.view.loc (tile d i) ↦[bM.view.set]{fullShare} f : sProp (MM F)) = (tile d i).loc cc1_scratch1 ↦{fullShare} f := by
  simp only [Memref.view_whole, View.set_whole]
theorem pts_bO (f : Vec F S4096 .i32) :
    (bO.view.loc (tile d i) ↦[bO.view.set]{fullShare} f : sProp (MM F)) = (tile d i).loc cc1_scratch3 ↦{fullShare} f := by
  simp only [Memref.view_whole, View.set_whole]

/-- A buffer written whole holds what was written. -/
theorem whole_writes (b : Ref sig .scVector) (f w : b.ty.Contents (Elt F)) :
    (View.whole b).writes (Elt F) f [⟨Rect.whole b.ty.shape, w⟩] = w := by
  funext x
  have h := View.read_writes_cons_emb (View.whole b) f (Rect.whole b.ty.shape) w [] x
  rw [View.read_whole] at h
  rw [show (Rect.whole b.ty.shape).emb x = x from Rect.emb_whole_apply _ x] at h
  exact h

theorem whole_emb (x : S4096.Idx) : (Rect.whole S4096).emb x = x := Rect.emb_whole_apply S4096 x

/-- A row of marks written whole holds, on the row, what was written. -/
theorem row_writes (h1 : k1_cond1 i = 1#1) (fo : Vec F S16384 .i32) (w : Vec F S4096 .i32) (sc : Vec F S16384 .f32) (mk : Vec F S16384 .i32)
    (hw : w = rowOut (F := F) (rowAt mk (wid (i 0).val (i 1).val)) (rowAt sc (wid (i 0).val (i 1).val))) :
    ∀ j ∈ rowSet (wid (i 0).val (i 1).val), (hbOr i h1).view.writes (Elt F) fo [⟨Rect.whole S4096, w⟩] j = outBuf sc mk j := by
  intro j hj
  rw [← rowWrite i h1 fo sc mk j hj, ← hw]
  rw [← rowR_set i h1, ← Rect.map_emb_univ] at hj
  obtain ⟨x, -, rfl⟩ := Finset.mem_map.mp hj
  have h := View.read_writes_cons_emb (hbOr i h1).view fo (Rect.whole S4096) w [] x
  rw [whole_emb x] at h
  have h' := View.read_write_of_mem (v := (hbOr i h1).view) fo w (Finset.mem_univ x)
  rw [← h'] at h
  have ha := (View.read_apply (v := (hbOr i h1).view) ((hbOr i h1).view.writes (Elt F) fo [⟨Rect.whole S4096, w⟩]) x).trans (cast_eq _ _)
  have hb := (View.read_apply (v := (hbOr i h1).view) ((hbOr i h1).view.write (Elt F) fo w Finset.univ) x).trans (cast_eq _ _)
  exact ha.symm.trans (h.trans hb)

/-- The body of a tile that works on a row. -/
theorem body_row (sc : Vec F S16384 .f32) (mk fo : Vec F S16384 .i32) (h1 : k1_cond1 i = 1#1)
    (hok : OkRow (F := F) (rowAt mk (wid (i 0).val (i 1).val)) (rowAt sc (wid (i 0).val (i 1).val)))
    (O : CellTallies nD τ sig (HIx 1)) (W : Waits sig (HIx 1)) (hO : ∀ g, O g none = 0) :
    iprop(levAts (K (F := F)).L (K (F := F)).lev ∗ emp ∗ rowIn sc mk fo d (wid (i 0).val (i 1).val)
        ∗ scopedBufs (tile d i) ∗ scopedSems0 (tile d i) ∗ owes (tile d i) O W)
      ⊢ WP d i (cc1__body i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) cc1_scoped0 cc1_scoped1 cc1_scoped2)
          fun _ => iprop(rowIn sc mk (outBuf sc mk) d (wid (i 0).val (i 1).val) ∗ scopedBufs (tile d i) ∗ scopedSems0 (tile d i)
            ∗ ∃ W', ⌜∀ p ∈ W', p ∈ W ∨ p.2 = none⌝ ∗ owes (tile d i) O W') := by
  simp only [cc1__body_eq_skeleton]; unfold cc1__body_skel
  rw [(K (F := F)).scopedBufs_V facts d ((i 0).castLE hcore1) ((i 1).castLE hsub1), SparseCore.Cfg.scopedSems0_V (Val := Elt F) d ((i 0).castLE hcore1) ((i 1).castLE hsub1), own_sems, own_bufs]
  unfold rowIn
  iintro ⟨#Hlv, -, ⟨Hs, Ha, Ho⟩, ⟨⟨%f0, H0⟩, ⟨%f1, H1⟩, ⟨%f2, H2⟩, ⟨%f3, H3⟩, H4, H5, Hbufs⟩, ⟨Hc0, Hc1, Hc2, Hsems⟩, HO⟩
  ihave Hmw := ((K (F := F)).mayWaits_none (thr := (tile d i)) hO) $$ Hlv
  ihave Hs := (Entails.of_eq (pts_S (F := F) d i h1 _).symm) $$ Hs
  ihave Ha := (Entails.of_eq (pts_A (F := F) d i h1 _).symm) $$ Ha
  ihave Ho := (Entails.of_eq (pts_O (F := F) d i h1 _).symm) $$ Ho
  ihave H0 := (Entails.of_eq (pts_bS (F := F) d i _).symm) $$ H0
  ihave H1 := (Entails.of_eq (pts_bM (F := F) d i _).symm) $$ H1
  rw [dif_pos h1]
  unfold WP
  sl_exec (disch := exact View.amount_pos _ _ (show 0 < S4096.numel by decide))
  have e0 : bS.view.writes (Elt F) bS.view.junk [⟨Rect.whole S4096, body_row.sl.dma0 i sc h1⟩] = rowAt (α := F .f32) sc (wid (i 0).val (i 1).val) := by
    refine (whole_writes cc1_scratch0 _ _).trans ?_
    unfold body_row.sl.dma0
    exact rowReadS i h1 sc
  have e1 : bM.view.writes (Elt F) bM.view.junk [⟨Rect.whole S4096, body_row.sl.dma0_1 i mk h1⟩] = rowAt (α := BitVec 32) mk (wid (i 0).val (i 1).val) := by
    refine (whole_writes cc1_scratch1 _ _).trans ?_
    unfold body_row.sl.dma0_1
    exact rowReadM i h1 mk
  ihave H0 := (Entails.of_eq ((congrArg (fun f => (bS.view.loc (tile d i) ↦[bS.view.set]{fullShare} f : sProp (MM F))) e0).trans (pts_bS (F := F) d i _))) $$ H0
  ihave H1 := (Entails.of_eq ((congrArg (fun f => (bM.view.loc (tile d i) ↦[bM.view.set]{fullShare} f : sProp (MM F))) e1).trans (pts_bM (F := F) d i _))) $$ H1
  iapply (seqW d i (loop1 d i cc1_scoped0 cc1_scoped1 cc1_scoped2 h1 _ _ f2)) $$ [H0 H1 H2 H4]
  · isplitl [H0]; · iexact H0
    isplitl [H1]; · iexact H1
    isplitl [H2]; · iexact H2
    iexact H4
  iintro %_ ⟨H0, H1, H2, H4⟩
  iapply (seqW d i (loop2 d i cc1_scoped0 cc1_scoped1 cc1_scoped2 h1 _)) $$ [H2 H4]
  · isplitl [H2]; · iexact H2
    iexact H4
  iintro %r ⟨%hr, H2, H4⟩
  subst hr
  have h3 := loop3 d i cc1_scoped0 cc1_scoped1 cc1_scoped2 h1 _ hok
  unfold st0 at h3
  iapply (seqW d i h3) $$ [H0 H2 H4 H5]
  · isplitl [H0]; · iexact H0
    isplitl [H2]; · iexact H2
    isplitl [H4]; · iexact H4
    iexact H5
  iintro %_ ⟨H0, H2, H4, H5⟩
  iapply (seqW d i (loop4 d i cc1_scoped0 cc1_scoped1 cc1_scoped2 h1 _ f3)) $$ [H0 H3]
  · isplitl [H0]; · iexact H0
    iexact H3
  iintro %_ ⟨H0, H3⟩
  ihave H3 := (Entails.of_eq (pts_bO (F := F) d i _).symm) $$ H3
  unfold WP
  sl_exec (disch := exact View.amount_pos _ _ (show 0 < S4096.numel by decide))
  sl_step
  isplitl [Hs Ha Ho]
  · isplitl [Hs]; · iapply (Entails.of_eq (pts_S (F := F) d i h1 _)); iexact Hs
    isplitl [Ha]; · iapply (Entails.of_eq (pts_A (F := F) d i h1 _)); iexact Ha
    iapply (Entails.of_eq ((pts_O (F := F) d i h1 _).trans (pointsTo_congr (row_writes i h1 fo _ sc mk rfl)))); iexact Ho
  isplitl [H0 H1 H2 H3 H4 H5 Hbufs]
  · isplitl [H0]; · iexists _; iexact H0
    isplitl [H1]; · iexists _; iexact H1
    isplitl [H2]; · iexists _; iexact H2
    isplitl [H3]; · iexists _; iapply (Entails.of_eq (pts_bO (F := F) d i _)); iexact H3
    isplitl [H4]; · iexact H4
    isplitl [H5]; · iexact H5
    iexact Hbufs
  isplitl [Hc0 Hc1 Hc2 Hsems]
  · isplitl [Hc0]; · iexact Hc0
    isplitl [Hc1]; · iexact Hc1
    isplitl [Hc2]; · iexact Hc2
    iexact Hsems
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact .inl hp

/-- The body of a tile that works on no row. -/
theorem body_idle (sc : Vec F S16384 .f32) (mk fo : Vec F S16384 .i32) (h1 : ¬ k1_cond1 i = 1#1)
    (O : CellTallies nD τ sig (HIx 1)) (W : Waits sig (HIx 1)) :
    iprop(levAts (K (F := F)).L (K (F := F)).lev ∗ emp ∗ rowIn sc mk fo d (wid (i 0).val (i 1).val)
        ∗ scopedBufs (tile d i) ∗ scopedSems0 (tile d i) ∗ owes (tile d i) O W)
      ⊢ WP d i (cc1__body i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) cc1_scoped0 cc1_scoped1 cc1_scoped2)
          fun _ => iprop(rowIn sc mk (outBuf sc mk) d (wid (i 0).val (i 1).val) ∗ scopedBufs (tile d i) ∗ scopedSems0 (tile d i)
            ∗ ∃ W', ⌜∀ p ∈ W', p ∈ W ∨ p.2 = none⌝ ∗ owes (tile d i) O W') := by
  simp only [cc1__body_eq_skeleton]; unfold cc1__body_skel
  have hw : 4 ≤ wid (i 0).val (i 1).val := Nat.le_of_not_lt fun h => h1 ((cond_iff i).mpr h)
  have e : rowIn (F := F) sc mk fo d (wid (i 0).val (i 1).val) = rowIn sc mk (outBuf sc mk) d (wid (i 0).val (i 1).val) := by
    unfold rowIn
    rw [rowSet_empty hw]
    have e0 : (oLoc d ↦[(∅ : Finset S16384.Idx)]{fullShare} fo : sProp (MM F)) = oLoc d ↦[(∅ : Finset S16384.Idx)]{fullShare} outBuf sc mk :=
      pointsTo_congr fun j hj => absurd hj (Finset.notMem_empty j)
    rw [e0]
  rw [e, dif_neg h1]
  unfold WP
  iintro ⟨-, -, Hst, Hsb, Hss, HO⟩
  sl_exec
  sl_step
  isplitl [Hst]; · iexact Hst
  isplitl [Hsb]; · iexact Hsb
  isplitl [Hss]; · iexact Hss
  iexists W; isplitr
  · ipureintro; exact fun p hp => .inl hp
  · iexact HO

/-- The body of any tile. -/
theorem body_tile (sc : Vec F S16384 .f32) (mk fo : Vec F S16384 .i32)
    (hok : ∀ w < 4, OkRow (F := F) (rowAt mk w) (rowAt sc w))
    (O : CellTallies nD τ sig (HIx 1)) (W : Waits sig (HIx 1)) (hO : ∀ g, O g none = 0) :
    iprop(levAts (K (F := F)).L (K (F := F)).lev ∗ emp ∗ rowIn sc mk fo d (wid (i 0).val (i 1).val)
        ∗ scopedBufs (tile d i) ∗ scopedSems0 (tile d i) ∗ owes (tile d i) O W)
      ⊢ WP d i (cc1__body i hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) cc1_scoped0 cc1_scoped1 cc1_scoped2)
          fun _ => iprop(rowIn sc mk (outBuf sc mk) d (wid (i 0).val (i 1).val) ∗ scopedBufs (tile d i) ∗ scopedSems0 (tile d i)
            ∗ ∃ W', ⌜∀ p ∈ W', p ∈ W ∨ p.2 = none⌝ ∗ owes (tile d i) O W') := by
  by_cases h1 : k1_cond1 i = 1#1
  · exact body_row d i sc mk fo h1 (hok _ ((cond_iff i).mp h1)) O W hO
  · exact body_idle d i sc mk fo h1 O W

end Cert.Proof.Select
-- ==== Proof.Hand.lean ====
/-
  The launch: what the SparseCores are handed and hand back, each tile's obligation, the launch's ghost state, @main on
  the TensorCore and the run of every thread.
-/
module

public import proofs.«01_k».proof.Proof.Call
public import proofs.«01_k».proof.Proof.Tile

@[expose] public section

set_option maxRecDepth 16384

noncomputable section

namespace Cert.Proof.Select

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (Dat Cfg Window BodyObligation cellOf)

variable {F : FTy → Type} [FloatOps F]

/-! ## What the call hands over -/

section Hand

variable (sc : Dev nD → Vec F S16384 .f32) (mk fo : Dev nD → Vec F S16384 .i32)

/-- Each tile's row in, each tile's row out. -/
def P : (K (F := F)).Pay (nD := nD) (Val := Elt F) (Name := ℕ) (U := UU) where
  st := fun q d c => match q with | 0 => bigSep Finset.univ fun i : Fin 16 => rowIn (sc d) (mk d) (fo d) d (wid c.val i.val)
  dn := fun q d c => match q with | 0 => bigSep Finset.univ fun i : Fin 16 => rowIn (sc d) (mk d) (outBuf (sc d) (mk d)) d (wid c.val i.val)
  go := fun q d c i => match q with | 0 => rowIn (sc d) (mk d) (fo d) d (wid c.val i.val)
  td := fun q d c i => match q with | 0 => rowIn (sc d) (mk d) (outBuf (sc d) (mk d)) d (wid c.val i.val)
  x := fun _ _ => iprop(emp)

instance rowIn_storable (s : Vec F S16384 .f32) (a o : Vec F S16384 .i32) (d : Dev nD) (w : ℕ) : BI.Storable (upEmb : UEmb _ (MM F)) (rowIn s a o d w) := by
  unfold rowIn; infer_instance

instance P_storable : (P sc mk fo).IsStorable where
  st q d _ := match q with | 0 => (inferInstance : BI.Storable (upEmb : UEmb _ (MM F)) (bigSep Finset.univ fun i : Fin 16 => rowIn (sc d) (mk d) (fo d) d (wid _ i.val)))
  dn q d _ := match q with | 0 => (inferInstance : BI.Storable (upEmb : UEmb _ (MM F)) (bigSep Finset.univ fun i : Fin 16 => rowIn (sc d) (mk d) (outBuf (sc d) (mk d)) d (wid _ i.val)))
  go q d _ _ := match q with | 0 => rowIn_storable _ _ _ _ _
  td q d _ _ := match q with | 0 => rowIn_storable _ _ _ _ _

/-- A tile's coordinates. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 1 ()
      = SparseCore.onTile hcore1 hsub1 (fun c s => cc1__body (coordsV c s) hbS (Memref.isWhole_whole _) hbM (Memref.isWhole_whole _) hbO (Memref.isWhole_whole _) bS (Memref.isWhole_whole _) bM (Memref.isWhole_whole _) bC (Memref.isWhole_whole _) bO (Memref.isWhole_whole _) bF (Memref.isWhole_whole _) bI (Memref.isWhole_whole _) cc1_scoped0 cc1_scoped1 cc1_scoped2) ⟨⟩ c s := rfl

theorem wait_weaken {thr : Thread nD τ} {A B C : sProp (MM F)} {O : CellTallies nD τ sig (HIx 1)} {Wd : Waits sig (HIx 1)} {q : Fin 1} :
    iprop(A ∗ B ∗ C ∗ ∃ W', ⌜∀ p ∈ W', p ∈ Wd ∨ p.2 = none⌝ ∗ owes thr O W')
      ⊢ iprop(A ∗ B ∗ C ∗ ∃ W', ⌜∀ p ∈ W', p ∈ Wd ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hok : ∀ d, ∀ w < 4, OkRow (F := F) (rowAt (mk d) w) (rowAt (sc d) w)) : (K (F := F)).TileObl (D (F := F)) 𝒱 (P sc mk fo) v₀ 0 := by
  intro d c i O Wd hO _ _
  simp only [show (P sc mk fo).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_tile]; simp only [SparseCore.onTile, hc, and_self, ↓reduceDIte]
  exact (body_tile d (coordsV ⟨_, hc.1⟩ ⟨_, hc.2⟩) (sc d) (mk d) (fo d) (hok d) O Wd hO).trans (wp_mono frame _ _ fun _ => wait_weaken)

theorem vecSplit : (K (F := F)).VecSplit' (P sc mk fo) 0 := by
  intro d c
  show iprop(bigSep Finset.univ fun i : Fin 16 => rowIn (sc d) (mk d) (fo d) d (wid c.val i.val)) ⊢ |={Set.univ}=> iprop(
      (bigSep Finset.univ fun i : Fin 16 => rowIn (sc d) (mk d) (fo d) d (wid c.val i.val))
      ∗ ((bigSep Finset.univ fun i : Fin 16 => rowIn (sc d) (mk d) (outBuf (sc d) (mk d)) d (wid c.val i.val))
          -∗ bigSep Finset.univ fun i : Fin 16 => rowIn (sc d) (mk d) (outBuf (sc d) (mk d)) d (wid c.val i.val)))
  iintro H; imodintro
  isplitl [H]; · iexact H
  iintro H; iexact H

/-- The rows, over cores and tiles, are pairwise disjoint and all of the array. -/
abbrev tileSet (p : Fin 2 × Fin 16) : Finset S16384.Idx := rowSet (wid p.1.val p.2.val)

theorem tileSet_disjoint : ∀ p ∈ (Finset.univ : Finset (Fin 2 × Fin 16)), ∀ q ∈ (Finset.univ : Finset (Fin 2 × Fin 16)), p ≠ q → Disjoint (tileSet p) (tileSet q) := by
  intro p _ q _ h
  refine Finset.disjoint_left.mpr fun j h1 h2 => h ?_
  have e1 := (Finset.mem_filter.mp h1).2
  have e2 := (Finset.mem_filter.mp h2).2
  have := p.1.isLt; have := q.1.isLt
  simp only [wid] at e1 e2
  exact Prod.ext (Fin.ext (by omega)) (Fin.ext (by omega))

theorem tileSet_cover : (Finset.univ : Finset (Fin 2 × Fin 16)).biUnion tileSet = Finset.univ := by
  ext j
  simp only [Finset.mem_biUnion, Finset.mem_univ, true_and, iff_true]
  have hj : (j 0).val < 16384 := (j 0).isLt
  refine ⟨(⟨(j 0).val / 4096 % 2, by omega⟩, ⟨(j 0).val / 4096 / 2, by omega⟩), Finset.mem_filter.mpr ⟨Finset.mem_univ _, ?_⟩⟩
  show (j 0).val / 4096 = 2 * ((j 0).val / 4096 / 2) + (j 0).val / 4096 % 2
  omega

/-- Every tile's row together: the three arrays whole. -/
theorem rows_all (s : Vec F S16384 .f32) (a o : Vec F S16384 .i32) (d : Dev nD) :
    (bigSep Finset.univ fun c : Fin 2 => bigSep Finset.univ fun i : Fin 16 => rowIn s a o d (wid c.val i.val))
      = (iprop((sLoc d ↦{fullShare} s) ∗ (aLoc d ↦{fullShare} a) ∗ oLoc d ↦{fullShare} o) : sProp (MM F)) := by
  rw [← bigSep_univ_prod (fun p : Fin 2 × Fin 16 => rowIn s a o d (wid p.1.val p.2.val))]
  unfold rowIn
  rw [bigSep_sep', bigSep_sep',
    ← pointsTo_biUnion Finset.univ (ℓ := sLoc d) tileSet tileSet_disjoint, ← pointsTo_biUnion Finset.univ (ℓ := aLoc d) tileSet tileSet_disjoint,
    ← pointsTo_biUnion Finset.univ (ℓ := oLoc d) tileSet tileSet_disjoint, tileSet_cover]

theorem st_all (d : Dev nD) : (bigSep Finset.univ fun c : Fin ((K (F := F)).nCore 0) => (P sc mk fo).st 0 d c)
    = iprop((sLoc d ↦{fullShare} sc d) ∗ (aLoc d ↦{fullShare} mk d) ∗ oLoc d ↦{fullShare} fo d) := rows_all (sc d) (mk d) (fo d) d
theorem dn_all (d : Dev nD) : (bigSep Finset.univ fun c : Fin ((K (F := F)).nCore 0) => (P sc mk fo).dn 0 d c)
    = iprop((sLoc d ↦{fullShare} sc d) ∗ (aLoc d ↦{fullShare} mk d) ∗ oLoc d ↦{fullShare} outBuf (sc d) (mk d)) := rows_all (sc d) (mk d) (outBuf (sc d) (mk d)) d

/-! ## The launch element -/

abbrev pcf : Fin 1 → Cfg sig Λ₀ := Pipeline.pin (pcfgs (F := F)) adm

def u₀ : UU := (initOf (K (F := F)).hsCells (K (F := F)).hsToks, (initOf (Pipeline.cells (pcf (F := F)) ((kit0 (F := F)).cellOf_inj adm)) (Pipeline.launchToks (pcf (F := F)) ((kit0 (F := F)).cellOf_inj adm)), 1))

/-- What the launch hands each TensorCore for its pipeline. -/
abbrev G (d : Dev nD) : sProp (MM F) := iprop(Pipeline.cellsGhost (pcf (F := F)) EP 0 d ∗ Pipeline.toksInit (pcf (F := F)) EP 0 d)

theorem hu₀ : (ownU (u₀ (F := F)) : sProp (MM F))
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P sc mk fo).x q thr) := by
  unfold u₀
  iintro Hu
  ihave H := (ownU_pair _ _) $$ Hu
  icases H with ⟨HH, HK⟩
  ihave HK := (own_pair_emb embR _ _) $$ HK
  icases HK with ⟨HP, -⟩
  ihave HP := (Entails.of_eq (show (BI.own ((Emb.inl.trans embR : Emb _ (MM F)) (initOf (Pipeline.cells (pcf (F := F)) ((kit0 (F := F)).cellOf_inj adm)) (Pipeline.launchToks (pcf (F := F)) ((kit0 (F := F)).cellOf_inj adm)))) : sProp (MM F)) = BI.own (EP (initOf (Pipeline.cells (pcf (F := F)) ((kit0 (F := F)).cellOf_inj adm)) (Pipeline.launchToks (pcf (F := F)) ((kit0 (F := F)).cellOf_inj adm)))) from rfl)) $$ HP
  imod (Pipeline.fund_ghost (pcf (F := F)) EP ((kit0 (F := F)).cellOf_inj adm)) $$ HP with ⟨Hg, Ht⟩
  imodintro
  isplitl [HH]; · iexact HH
  isplitl [Hg Ht]
  · rw [bigSep_sep']
    isplitl [Hg]
    · iapply (Entails.of_eq (show (bigSep Finset.univ fun c : Dev nD => bigSep Finset.univ fun p => Pipeline.cellsGhost (pcf (F := F)) EP p c : sProp (MM F)) = bigSep Finset.univ fun c : Dev nD => Pipeline.cellsGhost (pcf (F := F)) EP 0 c from
        bigSep_congr fun c _ => bigSep_univ_of_subsingleton (0 : Fin 1)))
      iexact Hg
    · iapply (Entails.of_eq (show (bigSep Finset.univ fun c : Dev nD => bigSep Finset.univ fun p => Pipeline.toksInit (pcf (F := F)) EP p c : sProp (MM F)) = bigSep Finset.univ fun c : Dev nD => Pipeline.toksInit (pcf (F := F)) EP 0 c from
        bigSep_congr fun c _ => bigSep_univ_of_subsingleton (0 : Fin 1)))
      iexact Ht
  · rw [show (bigSep Finset.univ fun thr : Thread nD τ => bigSep Finset.univ fun q : Fin 1 => (P sc mk fo).x q thr) = (iprop(emp) : sProp (MM F)) from
      (bigSep_congr fun _ _ => bigSep_emp_const _).trans (bigSep_emp_const _)]
    iempintro

end Hand

end Cert.Proof.Select
-- ==== Proof.Main.lean ====
/-
  @main on the TensorCore, and the run of every thread: the six arguments keep their contents and the result is the
  tiles' array reshaped, whenever every row's choices are sound.
-/
module

public import Idealize.ShloMosaic.Lib.SparseCore.Quiescent
public import Idealize.ShloMosaic.Lib.StableHlo.Run
public import proofs.«01_k».proof.Proof.Hand

@[expose] public section

set_option maxRecDepth 16384

noncomputable section

namespace Cert.Proof.Select

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (Dat Cfg Window BodyObligation cellOf)

variable {F : FTy → Type} [FloatOps F]

/-! ## The values -/

abbrev rf (b : Ref sig .tc) : DevRef τ sig := Proc.devRef .tc b

abbrev op1 : HloOp τ sig (Elt F) := StableHlo.reshape main_arg0 main_v0 (rfl : (.f32 : EltTy) = .f32) shapeCasts_S4x4096x2048_S16384x2048
abbrev op2 : HloOp τ sig (Elt F) := StableHlo.reshape main_arg3 main_v1 (rfl : (.f32 : EltTy) = .f32) shapeCasts_S1024_S1x1024
abbrev op3 : HloOp τ sig (Elt F) := StableHlo.nullary main_c (constantI S_ 32 0#32)
abbrev op4 : HloOp τ sig (Elt F) := StableHlo.TRef.unary (StableHlo.TRef.of (T := ⟨S_, .i32⟩) main_c) (StableHlo.TRef.of (T := ⟨S_, .f32⟩) main_call0_v0) (sitofp .f32)
abbrev op5 : HloOp τ sig (Elt F) := StableHlo.TRef.binary (StableHlo.TRef.of (T := ⟨S1x1024, .f32⟩) main_arg4) (StableHlo.TRef.of (T := ⟨S_, .f32⟩) main_call0_v0)
  (StableHlo.TRef.of (T := ⟨S128x1024, .f32⟩) main_v2) (fun x v => pad S128x1024 ![0, 0] ![127, 0] ![0, 0] x v pads_S1x1024_S128x1024_01270_000 h_S_)
abbrev op6 : HloOp τ sig (Elt F) := StableHlo.reshape main_v3 main_v4 (rfl : (.f32 : EltTy) = .f32) shapeCasts_S16x1x1024_S16384
abbrev op7 : HloOp τ sig (Elt F) := StableHlo.reshape main_v4 main_v5 (rfl : (.f32 : EltTy) = .f32) shapeCasts_S16384_S4x4096
abbrev op8 : HloOp τ sig (Elt F) := StableHlo.reshape main_v5 main_v6 (rfl : (.f32 : EltTy) = .f32) shapeCasts_S4x4096_S16384
abbrev op9 : HloOp τ sig (Elt F) := StableHlo.reshape main_arg1 main_v7 (rfl : (.i32 : EltTy) = .i32) shapeCasts_S4x4096_S16384
abbrev op10 : HloOp τ sig (Elt F) := StableHlo.reshape main_v8 main_v9 (rfl : (.i32 : EltTy) = .i32) shapeCasts_S16384_S4x4096

variable (m : (ℓ : Loc nD τ sig) → Buf (Elt F) ℓ) (ρ : Dev nD → PrngReg)

/-- The arrays at launch, before the TensorCore's call, after it, before the SparseCores' call, after it, at the end. -/
def V0 (d : Dev nD) : Valuation τ sig (Elt F) := fun b => m (d, b)
def VA (d : Dev nD) : Valuation τ sig (Elt F) := op5.result (op4.result (op3.result (op2.result (op1.result (V0 m d)))))
def VB (d : Dev nD) : Valuation τ sig (Elt F) := Pipeline.afterRegion (dat (VA m) d) (VA m d)
def VC (d : Dev nD) : Valuation τ sig (Elt F) := op9.result (op8.result (op7.result (op6.result (VB m d))))
def scA (d : Dev nD) : Vec F S16384 .f32 := VC m d (rf main_v6)
def mkA (d : Dev nD) : Vec F S16384 .i32 := VC m d (rf main_v7)
def foA (d : Dev nD) : Vec F S16384 .i32 := VC m d (rf main_v8)
def VD (d : Dev nD) : Valuation τ sig (Elt F) := Function.update (VC m d) (rf main_v8) (outBuf (scA m d) (mkA m d))
def VE (d : Dev nD) : Valuation τ sig (Elt F) := op10.result (VD m d)

/-! ## The arrays held -/

abbrev callRefs : Finset (DevRef τ sig) := {rf main_v6, rf main_v7, rf main_v8}

theorem callRefs_sub : callRefs ⊆ Pipeline.ucRefs τ sig := by
  intro b hb
  simp only [callRefs, Finset.mem_insert, Finset.mem_singleton] at hb
  rcases hb with rfl | rfl | rfl <;> exact Finset.mem_filter.mpr ⟨Finset.mem_map.mpr ⟨_, Finset.mem_univ _, rfl⟩, by decide⟩

theorem held_call (d : Dev nD) (W : Valuation τ sig (Elt F)) :
    (StableHlo.held (SparseCore.T d) (Pipeline.ucRefs τ sig) W : sProp (MM F))
      = iprop(((sLoc d ↦{fullShare} W (rf main_v6)) ∗ (aLoc d ↦{fullShare} W (rf main_v7)) ∗ oLoc d ↦{fullShare} W (rf main_v8))
          ∗ StableHlo.held (SparseCore.T d) (Pipeline.ucRefs τ sig \ callRefs) W) := by
  rw [StableHlo.held_sub_split (SparseCore.T d) callRefs_sub W]
  congr 1
  unfold StableHlo.held callRefs
  rw [SparseCore.bigSep_insert' (by decide), SparseCore.bigSep_insert' (by decide), bigSep_singleton]

theorem held_VD (d : Dev nD) : (StableHlo.held (SparseCore.T d) (Pipeline.ucRefs τ sig) (VD m d) : sProp (MM F))
      = iprop(((sLoc d ↦{fullShare} scA m d) ∗ (aLoc d ↦{fullShare} mkA m d) ∗ oLoc d ↦{fullShare} outBuf (scA m d) (mkA m d))
          ∗ StableHlo.held (SparseCore.T d) (Pipeline.ucRefs τ sig \ callRefs) (VC m d)) := by
  rw [held_call, StableHlo.held_congr (SparseCore.T d) (S := Pipeline.ucRefs τ sig \ callRefs) (V := VD m d) (V' := VC m d)
    (fun b hb => Function.update_of_ne (fun e => (Finset.mem_sdiff.mp hb).2 (by rw [e]; decide)) _ _)]
  rw [show VD m d (rf main_v6) = scA m d from Function.update_of_ne (by decide) _ _,
    show VD m d (rf main_v7) = mkA m d from Function.update_of_ne (by decide) _ _,
    show VD m d (rf main_v8) = outBuf (scA m d) (mkA m d) from Function.update_self _ _ _]

theorem held_read (d : Dev nD) (W : Valuation τ sig (Elt F)) (s' : Phys nD τ sig (Elt F)) (A : Finset (DevRef τ sig)) :
    iprop(StableHlo.held (SparseCore.T d) A W ∗ SI s') ⊢ (⌜∀ b ∈ A, s'.mem.mem (d, b) = W b⌝ : sProp (MM F)) := by
  induction A using Finset.induction with
  | empty => iintro -; ipureintro; exact fun b hb => absurd hb (Finset.notMem_empty b)
  | insert a A ha ih =>
    rw [show (StableHlo.held (SparseCore.T d) (insert a A) W : sProp (MM F))
      = iprop((((d, a) : Loc nD τ sig) ↦{fullShare} W a) ∗ StableHlo.held (SparseCore.T d) A W) from by
        unfold StableHlo.held; rw [SparseCore.bigSep_insert' ha]]
    iintro ⟨⟨Ha, HA⟩, HSI⟩
    ihave H := (persistent_entails_right (SI_pointsTo_agree (st := s') (ℓ := ((d, a) : Loc nD τ sig)) (I := Finset.univ) (q := fullShare) (f := W a))) $$ [HSI Ha]
    · isplitl [HSI] <;> iassumption
    icases H with ⟨%h, HSI, -⟩
    ihave H := ih $$ [HA HSI]
    · isplitl [HA] <;> iassumption
    icases H with %h'
    ipureintro
    intro b hb
    rcases Finset.mem_insert.mp hb with rfl | hb
    · exact funext fun i => h i (Finset.mem_univ i)
    · exact h' b hb

abbrev FIN (d : Dev nD) : sProp (MM F) := StableHlo.held (SparseCore.T d) (Pipeline.ucRefs τ sig) (VE m d)

theorem tcSt_low (d : Dev nD) : ∃ R : sProp (MM F), (K (F := F)).tcSt EH d 0 = iprop(owesLow d ∗ R) :=
  ⟨_, rfl⟩

theorem hmain [∀ e, Nonempty (Elt F e)] (κ : GSem nD τ sig → ℕ) (d : Dev nD) :
    iprop((K (F := F)).ctx EH (P (scA m) (mkA m) (foA m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_low (F := F) d
  unfold SparseCore.Cfg.tcRes SparseCore.Cfg.tcEnd
  rw [show (unscopedBufs d (fun b => m ((SparseCore.T d).loc b)) : sProp (MM F)) = StableHlo.held (SparseCore.T d) (Pipeline.ucRefs τ sig) (V0 m d) from
    Pipeline.unscopedBufs_held d (V0 m d)]
  simp only [main, fn_pad.body, wp_bind, wp_pure]
  iintro ⟨#Hctx, Hst, ⟨Hb, Hheld, Hts, -⟩, Hg, Ht⟩
  iapply (StableHlo.wp_hlo_within 𝒱 (SparseCore.T d) none Set.univ (op := op1) (S := Pipeline.ucRefs τ sig) (Pipeline.sub_ucRefs _ (by simp)) (V := V0 m d)) $$ [Hb Hheld]
  · isplitl [Hb] <;> iassumption
  iintro ⟨Hb, Hheld⟩
  rw [wp_ret]; imodintro
  iapply (StableHlo.wp_hlo_within 𝒱 (SparseCore.T d) none Set.univ (op := op2) (S := Pipeline.ucRefs τ sig) (Pipeline.sub_ucRefs _ (by simp)) (V := op1.result (V0 m d))) $$ [Hb Hheld]
  · isplitl [Hb] <;> iassumption
  iintro ⟨Hb, Hheld⟩
  rw [wp_ret]; imodintro
  iapply (StableHlo.wp_hlo_within 𝒱 (SparseCore.T d) none Set.univ (op := op3) (S := Pipeline.ucRefs τ sig) (Pipeline.sub_ucRefs _ (by simp)) (V := op2.result (op1.result (V0 m d)))) $$ [Hb Hheld]
  · isplitl [Hb] <;> iassumption
  iintro ⟨Hb, Hheld⟩
  rw [wp_ret]; imodintro
  iapply (StableHlo.wp_hlo_within 𝒱 (SparseCore.T d) none Set.univ (op := op4) (S := Pipeline.ucRefs τ sig) (Pipeline.sub_ucRefs _ (by simp)) (V := op3.result (op2.result (op1.result (V0 m d))))) $$ [Hb Hheld]
  · isplitl [Hb] <;> iassumption
  iintro ⟨Hb, Hheld⟩
  rw [wp_ret]; imodintro
  iapply (StableHlo.wp_hlo_within 𝒱 (SparseCore.T d) none Set.univ (op := op5) (S := Pipeline.ucRefs τ sig) (Pipeline.sub_ucRefs _ (by simp)) (V := op4.result (op3.result (op2.result (op1.result (V0 m d)))))) $$ [Hb Hheld]
  · isplitl [Hb] <;> iassumption
  iintro ⟨Hb, Hheld⟩
  rw [wp_ret]; imodintro; imodintro
  -- the TensorCore's call
  ihave #Hlev := (SparseCore.Cfg.ctx_levAts κ) $$ Hctx
  ihave Hst := (Entails.of_eq hR) $$ Hst
  icases Hst with ⟨HO, HR⟩
  iapply (call_step (VA m) d _) $$ [Hb Hheld Hts Hg Ht HO HR]
  isplitr [Hb Hheld Hg Ht HO]
  swap
  · isplitl [Hb]; · iexact Hb
    isplitl [Hheld]; · iexact Hheld
    isplitl [HO]; · iexact HO
    isplitr; · iexact Hlev
    isplitl [Hg] <;> iassumption
  iintro ⟨Hb, Hheld, HO⟩
  ihave Hheld := (show (StableHlo.held (SparseCore.T d) (Pipeline.ucRefs τ sig) (Pipeline.afterRegion (dat (VA m) d) (VA m d)) : sProp (MM F)) ⊢ StableHlo.held (SparseCore.T d) (Pipeline.ucRefs τ sig) (VB m d) from Entails.rfl) $$ Hheld
  ihave Hst := (Entails.of_eq hR.symm) $$ [HO HR]
  · isplitl [HO] <;> iassumption
  iapply (StableHlo.wp_hlo_within 𝒱 (SparseCore.T d) none Set.univ (op := op6) (S := Pipeline.ucRefs τ sig) (Pipeline.sub_ucRefs _ (by simp)) (V := VB m d)) $$ [Hb Hheld]
  · isplitl [Hb] <;> iassumption
  iintro ⟨Hb, Hheld⟩
  rw [wp_ret]; imodintro
  iapply (StableHlo.wp_hlo_within 𝒱 (SparseCore.T d) none Set.univ (op := op7) (S := Pipeline.ucRefs τ sig) (Pipeline.sub_ucRefs _ (by simp)) (V := op6.result (VB m d))) $$ [Hb Hheld]
  · isplitl [Hb] <;> iassumption
  iintro ⟨Hb, Hheld⟩
  rw [wp_ret]; imodintro
  iapply (StableHlo.wp_hlo_within 𝒱 (SparseCore.T d) none Set.univ (op := op8) (S := Pipeline.ucRefs τ sig) (Pipeline.sub_ucRefs _ (by simp)) (V := op7.result (op6.result (VB m d)))) $$ [Hb Hheld]
  · isplitl [Hb] <;> iassumption
  iintro ⟨Hb, Hheld⟩
  rw [wp_ret]; imodintro
  iapply (StableHlo.wp_hlo_within 𝒱 (SparseCore.T d) none Set.univ (op := op9) (S := Pipeline.ucRefs τ sig) (Pipeline.sub_ucRefs _ (by simp)) (V := op8.result (op7.result (op6.result (VB m d))))) $$ [Hb Hheld]
  · isplitl [Hb] <;> iassumption
  iintro ⟨Hb, Hheld⟩
  rw [wp_ret]; imodintro
  -- the SparseCores' call
  ihave Hheld := (show (StableHlo.held (SparseCore.T d) (Pipeline.ucRefs τ sig) (op9.result (op8.result (op7.result (op6.result (VB m d))))) : sProp (MM F)) ⊢ StableHlo.held (SparseCore.T d) (Pipeline.ucRefs τ sig) (VC m d) from Entails.rfl) $$ Hheld
  ihave Hh := (Entails.of_eq (held_call d (VC m d))) $$ Hheld
  icases Hh with ⟨Hrows, Hrest⟩
  iapply ((K (F := F)).wp_run (D (F := F)) 𝒱 (EH := EH) (P := P (scA m) (mkA m) (foA m)) κ d 0) $$ [Hst Hrows Hrest Hb Hts]
  isplitr; · iexact Hctx
  isplitl [Hst]; · iexact Hst
  isplitl [Hrows]
  · rw [st_all]; iexact Hrows
  iintro ⟨Hst, Hdn⟩
  ihave Hdn := (Entails.of_eq (dn_all (scA m) (mkA m) (foA m) d)) $$ Hdn
  ihave Hheld := (Entails.of_eq (held_VD m d).symm) $$ [Hdn Hrest]
  · isplitl [Hdn] <;> iassumption
  iapply (StableHlo.wp_hlo_within 𝒱 (SparseCore.T d) none Set.univ (op := op10) (S := Pipeline.ucRefs τ sig) (Pipeline.sub_ucRefs _ (by simp)) (V := VD m d)) $$ [Hb Hheld]
  · isplitl [Hb] <;> iassumption
  iintro ⟨Hb, Hheld⟩
  ihave Hheld := (show (StableHlo.held (SparseCore.T d) (Pipeline.ucRefs τ sig) (op10.result (VD m d)) : sProp (MM F)) ⊢ StableHlo.held (SparseCore.T d) (Pipeline.ucRefs τ sig) (VE m d) from Entails.rfl) $$ Hheld
  rw [wp_ret]; imodintro; imodintro
  isplitl [Hst]; · iexact Hst
  isplitl [Hheld]; · iexact Hheld
  isplitl [Hb] <;> iassumption

/-! ## The run -/

/-- The final memory holds `VE` at every array of @main. -/
def fq (d : Dev nD) (s' : Phys nD τ sig (Elt F)) : Prop := ∀ b ∈ Pipeline.ucRefs τ sig, s'.mem.mem (d, b) = VE m d b

theorem hfin (d : Dev nD) (s' : Phys nD τ sig (Elt F)) : iprop(FIN m d ∗ SI s') ⊢ (⌜fq m d s'⌝ : sProp (MM F)) := held_read d (VE m d) s' _

/-- Every run ends, at zero semaphores, with `VE` in @main's arrays. -/
theorem run_main [∀ e, Nonempty (Elt F e)] (hok : ∀ d, ∀ w < 4, OkRow (F := F) (rowAt (mkA m d) w) (rowAt (scA m d) w)) :
    θ_run (defs (F := F)) (threads (F := F)) ⟨m, fun _ => 0, ρ⟩
      fun r => (∀ d, ∀ b ∈ Pipeline.ucRefs τ sig, r.2.mem (d, b) = VE m d b) ∧ r.2.sem = fun _ => 0 :=
  SparseCore.Cfg.θ_run_sc_quiescent (K := K (F := F)) (D := D (F := F)) (𝒱 := 𝒱) (EH := EH) (P := P (scA m) (mkA m) (foA m)) (A := ∅) facts v₀
    (fun q hq => match q with | 0 => nomatch hq)
    (fun q _ => match q with | 0 => tileObl (scA m) (mkA m) (foA m) hok)
    (fun q _ => match q with | 0 => SparseCore.Cfg.VecSplit.of_plain (vecSplit (scA m) (mkA m) (foA m)))
    m ρ main (fun d => G d) (FIN m) (u₀ (F := F)) (sep_elim_left.trans (hu₀ (scA m) (mkA m) (foA m))) (hmain m ρ) (fq m) (hfin m) _ (fun _ h hz => ⟨h, hz⟩)

end Cert.Proof.Select
-- ==== Proof.Lanes.lean ====
/-
  The butterflies over the extended reals: the largest of sixteen lanes, and the first lane attaining it.
-/
module

public import proofs.«01_k».proof.Proof.Model

@[expose] public section

noncomputable section

namespace Cert.Proof.Select

open Cert.KernelIdeal Cert.KernelIdeal.Gen
open Idealize.ShloMosaic

/-! ## Butterflies in general -/

section Fly
variable {ι α : Type} (op : α → α → α) (le : α → α → Prop)

/-- One stage. -/
def stage (p : ι → ι) (x : ι → α) : ι → α := fun i => op (x i) (x (p i))

/-- A partner taken or not. -/
def hop (b : Bool) (p : ι → ι) (i : ι) : ι := if b then p i else i

variable {op le} (h1 : ∀ a b, le (op a b) a) (h2 : ∀ a b, le (op a b) b) (h3 : ∀ a b, op a b = a ∨ op a b = b)
include h1 h2

theorem stage_le (p : ι → ι) (x : ι → α) (b : Bool) (i : ι) : le (stage op p x i) (x (hop b p i)) := by
  cases b
  · exact h1 _ _
  · exact h2 _ _

omit h1 h2
include h3
theorem stage_mem (p : ι → ι) (x : ι → α) (i : ι) : ∃ b, stage op p x i = x (hop b p i) := by
  rcases h3 (x i) (x (p i)) with h | h
  · exact ⟨false, h⟩
  · exact ⟨true, h⟩

omit h3
include h1 h2
theorem fly_le (hr : ∀ a b c, le a b → le b c → le a c) (p q r s : ι → ι) (x : ι → α) (b1 b2 b3 b4 : Bool) (i : ι) :
    le (stage op s (stage op r (stage op q (stage op p x))) i) (x (hop b1 p (hop b2 q (hop b3 r (hop b4 s i))))) :=
  hr _ _ _ (stage_le h1 h2 s _ b4 i) (hr _ _ _ (stage_le h1 h2 r _ b3 _) (hr _ _ _ (stage_le h1 h2 q _ b2 _) (stage_le h1 h2 p _ b1 _)))

omit h1 h2
include h3
theorem fly_mem (p q r s : ι → ι) (x : ι → α) (i : ι) : ∃ k, stage op s (stage op r (stage op q (stage op p x))) i = x k := by
  obtain ⟨b4, h4⟩ := stage_mem h3 s (stage op r (stage op q (stage op p x))) i
  obtain ⟨b3, h3'⟩ := stage_mem h3 r (stage op q (stage op p x)) (hop b4 s i)
  obtain ⟨b2, h2⟩ := stage_mem h3 q (stage op p x) (hop b3 r (hop b4 s i))
  obtain ⟨b1, h1⟩ := stage_mem h3 p x (hop b2 q (hop b3 r (hop b4 s i)))
  exact ⟨_, h4.trans (h3'.trans (h2.trans h1))⟩
end Fly

/-- A lane of sixteen as an index. -/
abbrev ln (k : Fin 16) : S16.Idx := at1 (N := 16) k

theorem eq_ln (y : S16.Idx) : ∃ k : Fin 16, y = ln k := ⟨y 0, idx1_ext (N := 16) rfl⟩

/-- The partner of a lane. -/
def prt (k : BitVec 32) (hk : k.toNat < 16) (y : S16.Idx) : S16.Idx := idxAt (s := S16) ![partner k] (partner_lt k hk) y

theorem prt_ln (k : BitVec 32) (hk : k.toNat < 16) (i : Fin 16) : prt k hk (ln i) = ln ⟨i.val ^^^ k.toNat, Nat.xor_lt_two_pow (n := 4) i.isLt hk⟩ := by
  refine idx1_ext (N := 16) ?_
  show (lanes (ln i) ^^^ k).toNat = i.val ^^^ k.toNat
  rw [lanes_apply, BitVec.toNat_xor, BitVec.toNat_ofNat]
  have : (ln i 0).val = i.val := rfl
  rw [this, Nat.mod_eq_of_lt (by omega)]

/-- The same on numbers. -/
def flip (k : ℕ) (hk : k < 16) (i : Fin 16) : Fin 16 := ⟨i.val ^^^ k, Nat.xor_lt_two_pow (n := 4) i.isLt hk⟩

theorem hop_ln (b : Bool) (k : BitVec 32) (hk : k.toNat < 16) (i : Fin 16) : hop b (prt k hk) (ln i) = ln (hop b (flip k.toNat hk) i) := by
  cases b
  · rfl
  · exact prt_ln k hk i

theorem reach : ∀ i k : Fin 16, ∃ b1 b2 b3 b4 : Bool,
    hop b1 (flip 1 (by decide)) (hop b2 (flip 2 (by decide)) (hop b3 (flip 4 (by decide)) (hop b4 (flip 8 (by decide)) i))) = k := by
  decide +kernel

theorem reach_ln (i k : S16.Idx) : ∃ b1 b2 b3 b4 : Bool,
    hop b1 (prt 1#32 (by decide)) (hop b2 (prt 2#32 (by decide)) (hop b3 (prt 4#32 (by decide)) (hop b4 (prt 8#32 (by decide)) i))) = k := by
  obtain ⟨i, rfl⟩ := eq_ln i
  obtain ⟨k, rfl⟩ := eq_ln k
  obtain ⟨b1, b2, b3, b4, h⟩ := reach i k
  refine ⟨b1, b2, b3, b4, ?_⟩
  rw [hop_ln, hop_ln, hop_ln, hop_ln]
  exact congrArg ln h

/-! ## The largest lane -/

/-- Sixteen extended reals. -/
abbrev E16 : Type := FVec Ideal S16 .f32

theorem allMax_stage (x : E16) : allMax (F := Ideal) x
    = stage (α := EReal) max (prt 8#32 (by decide)) (stage max (prt 4#32 (by decide)) (stage max (prt 2#32 (by decide)) (stage max (prt 1#32 (by decide)) x))) := rfl

theorem le_allMax (x : E16) (y k : S16.Idx) : (x k : EReal) ≤ allMax (F := Ideal) x y := by
  obtain ⟨b1, b2, b3, b4, h⟩ := reach_ln y k
  rw [allMax_stage, ← h]
  exact fly_le (α := EReal) (op := max) (le := fun a b => b ≤ a) (fun a b => le_max_left a b) (fun a b => le_max_right a b) (fun a b c h h' => le_trans h' h) _ _ _ _ x b1 b2 b3 b4 y

theorem allMax_mem (x : E16) (y : S16.Idx) : ∃ k, allMax (F := Ideal) x y = x k := by
  rw [allMax_stage]
  exact fly_mem (α := EReal) (op := max) (fun a b => by rcases le_total a b with h | h; exacts [Or.inr (max_eq_right h), Or.inl (max_eq_left h)]) _ _ _ _ x y

theorem allMax_const (x : E16) (y y' : S16.Idx) : allMax (F := Ideal) x y = allMax (F := Ideal) x y' := by
  obtain ⟨k, hk⟩ := allMax_mem x y
  obtain ⟨k', hk'⟩ := allMax_mem x y'
  exact le_antisymm (hk ▸ le_allMax x y' k) (hk' ▸ le_allMax x y k')

/-! ## The first lane attaining it -/

theorem minW_stage (x : IVec S16 32) (k : BitVec 32) (hk : k.toNat < 16) : minW Ideal x k hk = stage (α := BitVec 32) IntOp.minsi (prt k hk) x := by
  funext y; rfl

theorem allMin_stage (x : IVec S16 32) : allMin Ideal x
    = stage (α := BitVec 32) IntOp.minsi (prt 8#32 (by decide)) (stage IntOp.minsi (prt 4#32 (by decide)) (stage IntOp.minsi (prt 2#32 (by decide)) (stage IntOp.minsi (prt 1#32 (by decide)) x))) := by
  unfold allMin
  rw [minW_stage, minW_stage, minW_stage, minW_stage]

theorem minsi_left (a b : BitVec 32) : (IntOp.minsi a b).toInt ≤ a.toInt := by
  unfold IntOp.minsi
  by_cases h : a.slt b
  · rw [if_pos h]
  · rw [if_neg h]; rw [BitVec.slt_iff_toInt_lt] at h; exact not_lt.mp h

theorem minsi_right (a b : BitVec 32) : (IntOp.minsi a b).toInt ≤ b.toInt := by
  unfold IntOp.minsi
  by_cases h : a.slt b
  · rw [if_pos h]; rw [BitVec.slt_iff_toInt_lt] at h; exact le_of_lt h
  · rw [if_neg h]

theorem minsi_or (a b : BitVec 32) : IntOp.minsi a b = a ∨ IntOp.minsi a b = b := by
  unfold IntOp.minsi
  split
  · exact Or.inl rfl
  · exact Or.inr rfl

theorem allMin_le (x : IVec S16 32) (y k : S16.Idx) : (allMin Ideal x y).toInt ≤ (x k).toInt := by
  obtain ⟨b1, b2, b3, b4, h⟩ := reach_ln y k
  rw [allMin_stage, ← h]
  exact fly_le (α := BitVec 32) (op := IntOp.minsi) (le := fun a b => a.toInt ≤ b.toInt) minsi_left minsi_right (fun a b c h h' => le_trans h h') _ _ _ _ x b1 b2 b3 b4 y

theorem allMin_mem (x : IVec S16 32) (y : S16.Idx) : ∃ k, allMin Ideal x y = x k := by
  rw [allMin_stage]
  exact fly_mem (α := BitVec 32) (op := IntOp.minsi) minsi_or _ _ _ _ x y

theorem toInt_small (n : ℕ) (h : n < 2 ^ 31) : (BitVec.ofNat 32 n).toInt = (n : ℤ) := by
  rw [BitVec.toInt_eq_toNat_of_lt (by rw [BitVec.toNat_ofNat]; omega), BitVec.toNat_ofNat, Nat.mod_eq_of_lt (by omega)]

open Classical in
theorem hits_apply (x v : E16) (k : Fin 16) : hits (F := Ideal) x v (ln k) = if (x (ln k) : EReal) = v (ln k) then BitVec.ofNat 32 k.val else 16#32 := by
  show Scalar.select (BitVec.ofBool (decide ((x (ln k) : EReal) = v (ln k)))) (lanes (ln k)) 16#32 = _
  rw [lanes_apply]
  by_cases h : (x (ln k) : EReal) = v (ln k)
  · rw [if_pos h, decide_eq_true h]; rfl
  · rw [if_neg h, decide_eq_false h]; rfl

open Classical in
theorem first_lane (P : Fin 16 → Prop) (h : ∃ k, P k) : ∃ l, P l ∧ ∀ k, P k → l ≤ k := by
  have hS : (Finset.univ.filter P).Nonempty := ⟨h.choose, Finset.mem_filter.mpr ⟨Finset.mem_univ _, h.choose_spec⟩⟩
  exact ⟨_, (Finset.mem_filter.mp (Finset.min'_mem _ hS)).2, fun k hk => Finset.min'_le _ k (Finset.mem_filter.mpr ⟨Finset.mem_univ _, hk⟩)⟩

/-- The lane a butterfly of minima names when the value is attained: the first. -/
theorem allMin_hits (x v : E16) (V : EReal) (hv : ∀ y, v y = V) (ha : ∃ k, x (ln k) = V) :
    ∃ l : Fin 16, allMin Ideal (hits (F := Ideal) x v) = (fun _ => BitVec.ofNat 32 l.val) ∧ x (ln l) = V ∧ ∀ k < l, x (ln k) ≠ V := by
  classical
  obtain ⟨l, hlV, hmin⟩ : ∃ l : Fin 16, x (ln l) = V ∧ ∀ k, x (ln k) = V → l ≤ k := first_lane (fun k => x (ln k) = V) ha
  refine ⟨l, ?_, hlV, fun k hk h => absurd (hmin k h) (not_le.mpr hk)⟩
  funext y
  have hle := allMin_le (hits (F := Ideal) x v) y (ln l)
  rw [hits_apply, if_pos (hlV.trans (hv _).symm), toInt_small _ (by omega)] at hle
  obtain ⟨k, hk⟩ := allMin_mem (hits (F := Ideal) x v) y
  obtain ⟨k, rfl⟩ := eq_ln k
  rw [hk, hits_apply] at hle
  rw [hk, hits_apply]
  split
  · rename_i h
    rw [if_pos h, toInt_small _ (by omega)] at hle
    have h2 : l.val ≤ k.val := hmin k (h.trans (hv _))
    have h3 : k = l := Fin.ext (by omega)
    rw [h3]
  · rename_i h
    rw [if_neg h] at hle
    have h16 : (16#32).toInt = 16 := by decide
    rw [h16] at hle
    omega

/-! ## Lanes replaced -/

theorem cmpi_lane (l : Fin 16) (k : Fin 16) : IntOp.cmpi .eq (lanes (ln k)) (BitVec.ofNat 32 l.val) = if k = l then 1#1 else 0#1 := by
  rw [lanes_apply]
  show BitVec.ofBool (BitVec.ofNat 32 k.val == BitVec.ofNat 32 l.val) = _
  by_cases h : k = l
  · rw [if_pos h, h, beq_self_eq_true]; rfl
  · rw [if_neg h, beq_eq_false_iff_ne.mpr fun e => h (Fin.ext (by
      have := congrArg BitVec.toNat e
      rw [BitVec.toNat_ofNat, BitVec.toNat_ofNat] at this
      omega))]
    rfl

theorem putLane_apply (l : Fin 16) (w : IVec S16 32) (hw : w = fun _ => BitVec.ofNat 32 l.val) (v x : E16) (k : Fin 16) :
    putLane (F := Ideal) w v x (ln k) = if k = l then v (ln k) else x (ln k) := by
  subst hw
  show Scalar.select (IntOp.cmpi .eq (lanes (ln k)) (BitVec.ofNat 32 l.val)) (v (ln k)) (x (ln k)) = _
  rw [cmpi_lane]
  split <;> rfl

theorem neg_eq : neg Ideal = (⊥ : EReal) := by
  show Ideal.ofBits .f32 0xFF800000#32 = ⊥
  simp [Ideal.ofBits, Ideal.ieee]

theorem knock_apply (l : Fin 16) (w : IVec S16 32) (hw : w = fun _ => BitVec.ofNat 32 l.val) (x : E16) (k : Fin 16) :
    knock (F := Ideal) w x (ln k) = if k = l then (⊥ : EReal) else x (ln k) :=
  (putLane_apply l w hw _ x k).trans (by
    show (if k = l then neg Ideal else x (ln k)) = _
    rw [neg_eq])

end Cert.Proof.Select
-- ==== Proof.Order.lean ====
/-
  The selection step over the extended reals: it takes the largest score, the first of equal ones, to minus infinity, and
  keeps the chunk maxima and the block maxima.
-/
module

public import proofs.«01_k».proof.Proof.Lanes

@[expose] public section

noncomputable section

namespace Cert.Proof.Select

open Cert.KernelIdeal Cert.KernelIdeal.Gen
open Idealize.ShloMosaic

/-- An element of a flat array. -/
abbrev val {N : ℕ} (s : Vec Ideal ⟨1, ![N]⟩ .f32) (p : Fin N) : EReal := s (at1 p)

theorem vec_ext {N : ℕ} {x y : Vec Ideal ⟨1, ![N]⟩ .f32} (h : ∀ p, val x p = val y p) : x = y := by
  funext j
  obtain ⟨p, rfl⟩ : ∃ p : Fin N, j = at1 p := ⟨j 0, idx1_ext rfl⟩
  exact h p

/-! ## Positions -/

/-- Lane `k` of chunk `t`. -/
abbrev pos (t : Fin 256) (k : Fin 16) : Fin 4096 := ⟨16 * t.val + k.val, by omega⟩
/-- Chunk `k` of block `j`. -/
abbrev cpos (j : Fin 16) (k : Fin 16) : Fin 256 := ⟨16 * j.val + k.val, by omega⟩

theorem pos_surj (q : Fin 4096) : ∃ t k, q = pos t k := ⟨⟨q.val / 16, by omega⟩, ⟨q.val % 16, by omega⟩, Fin.ext (by show q.val = 16 * (q.val / 16) + q.val % 16; omega)⟩
theorem cpos_surj (q : Fin 256) : ∃ t k, q = cpos t k := ⟨⟨q.val / 16, by omega⟩, ⟨q.val % 16, by omega⟩, Fin.ext (by show q.val = 16 * (q.val / 16) + q.val % 16; omega)⟩

theorem pos_inj {t t' : Fin 256} {k k' : Fin 16} : pos t k = pos t' k' ↔ t = t' ∧ k = k' := by
  constructor
  · intro h
    have := congrArg Fin.val h
    change 16 * t.val + k.val = 16 * t'.val + k'.val at this
    exact ⟨Fin.ext (by omega), Fin.ext (by omega)⟩
  · rintro ⟨rfl, rfl⟩; rfl

theorem cpos_inj {t t' : Fin 16} {k k' : Fin 16} : cpos t k = cpos t' k' ↔ t = t' ∧ k = k' := by
  constructor
  · intro h
    have := congrArg Fin.val h
    change 16 * t.val + k.val = 16 * t'.val + k'.val at this
    exact ⟨Fin.ext (by omega), Fin.ext (by omega)⟩
  · rintro ⟨rfl, rfl⟩; rfl

/-! ## The maxima -/

theorem maxC_val (s : Vec Ideal S4096 .f32) (t : Fin 256) (y : S16.Idx) : val (maxC s) t = allMax (F := Ideal) (chunk s t) y :=
  allMax_const (chunk s t) _ y

theorem maxB_val (m : Vec Ideal S256 .f32) (t : Fin 16) (y : S16.Idx) : val (maxB m) t = allMax (F := Ideal) (chunk256 m t) y :=
  allMax_const (chunk256 m t) _ y

theorem maxC_ge (s : Vec Ideal S4096 .f32) (t : Fin 256) (k : Fin 16) : val s (pos t k) ≤ val (maxC s) t := by
  rw [maxC_val s t (ln k)]; exact le_allMax (chunk s t) (ln k) (ln k)

theorem maxB_ge (m : Vec Ideal S256 .f32) (t : Fin 16) (k : Fin 16) : val m (cpos t k) ≤ val (maxB m) t := by
  rw [maxB_val m t (ln k)]; exact le_allMax (chunk256 m t) (ln k) (ln k)

/-! ## Gathers and scatters of a run of sixteen -/

theorem gath_run {N : ℕ} (hN : 0 < N) (x : Vec Ideal ⟨1, ![N]⟩ .f32) (idx : IVec S16 32) (k : Fin 16) (p : Fin N) (h : (idx (ln k)).toNat = p.val) :
    gath hN x idx (ln k) = val x p := by
  unfold gath
  rw [dif_pos (by rw [h]; exact p.isLt)]
  exact congrArg x (idx1_ext h)

theorem scat_run {N : ℕ} (x : Vec Ideal ⟨1, ![N]⟩ .f32) (idx : IVec S16 32) (v : E16) (e : Fin 16 → Fin N) (he : Function.Injective e)
    (h : ∀ k, (idx (ln k)).toNat = (e k).val) : (∀ k, val (scat x idx v) (e k) = v (ln k)) ∧ ∀ p, (∀ k, e k ≠ p) → val (scat x idx v) p = val x p := by
  have hin : ∀ (a : Fin 1) (y : S16.Idx), ((![idx] : Fin 1 → IVec S16 32) a y).toNat < (⟨1, ![N]⟩ : Shape).size a := by
    intro a y
    obtain rfl : a = 0 := Subsingleton.elim _ _
    obtain ⟨k, rfl⟩ := eq_ln y
    show (idx (ln k)).toNat < N
    rw [h]; exact (e k).isLt
  rw [← storeIdx_scat x idx v hin]
  refine ⟨fun k => ?_, fun p hp => ?_⟩
  · exact storeIdx_one (F := Ideal) (e := .f32) x idx v _ hin (at1 (e k)) k rfl (h k).symm fun k' _ hk' => (he (Fin.ext (hk'.trans (h k')))).symm
  · exact storeIdx_keep (F := Ideal) (e := .f32) x idx v _ hin (at1 p) fun k _ hk => hp k (Fin.ext ((hk.trans (h k)).symm))

theorem blockAt_ln (j : Fin 16) (w : IVec S16 32) (hw : w = fun _ => BitVec.ofNat 32 j.val) (k : Fin 16) : (blockAt w (ln k)).toNat = (cpos j k).val := by
  subst hw
  show (BitVec.ofNat 32 j.val * 16#32 + lanes (ln k)).toNat = 16 * j.val + k.val
  have hk : lanes (ln k) = BitVec.ofNat 32 k.val := lanes_apply _
  rw [hk, BitVec.toNat_add, BitVec.toNat_mul, BitVec.toNat_ofNat, BitVec.toNat_ofNat, BitVec.toNat_ofNat]
  omega

theorem chunkAt_ln (j l : Fin 16) (w w' : IVec S16 32) (hw : w = fun _ => BitVec.ofNat 32 j.val) (hw' : w' = fun _ => BitVec.ofNat 32 l.val) (k : Fin 16) :
    (chunkAt w w' (ln k)).toNat = (pos (cpos j l) k).val := by
  subst hw hw'
  show ((BitVec.ofNat 32 j.val * 16#32 + BitVec.ofNat 32 l.val) * 16#32 + lanes (ln k)).toNat = 16 * (16 * j.val + l.val) + k.val
  have hk : lanes (ln k) = BitVec.ofNat 32 k.val := lanes_apply _
  rw [hk, BitVec.toNat_add, BitVec.toNat_mul, BitVec.toNat_add, BitVec.toNat_mul, BitVec.toNat_ofNat, BitVec.toNat_ofNat, BitVec.toNat_ofNat, BitVec.toNat_ofNat]
  omega

/-! ## The step -/

/-- The maxima are those of the scores. -/
def Inv (σ : St Ideal) : Prop := σ.m = maxC σ.s ∧ σ.c = maxB σ.m

section
variable {F : FTy → Type} [FloatOps F] (σ : St F)
theorem step_eq : σ.step = ⟨scat (N := 4096) σ.s (chunkAt σ.j σ.l) σ.sv', scat (N := 256) σ.m (blockAt σ.j) σ.cv', putLane (F := F) σ.j (allMax (F := F) σ.cv') σ.c⟩ := by rw [St.step]
theorem step_s : σ.step.s = scat (N := 4096) σ.s (chunkAt σ.j σ.l) σ.sv' := by rw [step_eq]
theorem step_m : σ.step.m = scat (N := 256) σ.m (blockAt σ.j) σ.cv' := by rw [step_eq]
theorem step_c : σ.step.c = putLane (F := F) σ.j (allMax (F := F) σ.cv') σ.c := by rw [step_eq]
end

theorem step_spec (σ : St Ideal) (hI : Inv σ) : σ.Good ∧ Inv σ.step ∧ ∃ p : Fin 4096, (∀ q, val σ.s q ≤ val σ.s p) ∧ (∀ q < p, val σ.s q ≠ val σ.s p)
    ∧ ∀ q, val σ.step.s q = if q = p then (⊥ : EReal) else val σ.s q := by
  obtain ⟨hm, hc⟩ := hI
  -- the value taken
  set V : EReal := allMax (F := Ideal) σ.c (ln 0)
  have hv : ∀ y, (σ.v y : EReal) = V := fun y => allMax_const σ.c y (ln 0)
  have hcV : ∀ j, val σ.c j ≤ V := fun j => le_allMax σ.c (ln 0) (ln j)
  obtain ⟨j, hj, hjV, hjmin⟩ := allMin_hits σ.c σ.v V hv (by
    obtain ⟨k, hk⟩ := allMax_mem σ.c (ln 0)
    obtain ⟨k, rfl⟩ := eq_ln k
    exact ⟨k, hk.symm⟩)
  have hb := blockAt_ln j σ.j hj
  -- the block
  have hcv : ∀ k, σ.cv (ln k) = val σ.m (cpos j k) := fun k => gath_run _ σ.m (blockAt σ.j) k (cpos j k) (hb k)
  have hcv' : σ.cv = chunk256 σ.m j := by
    funext y; obtain ⟨k, rfl⟩ := eq_ln y; exact hcv k
  have hmV : ∀ y, (allMax (F := Ideal) σ.cv y : EReal) = V := fun y => by
    rw [hcv', ← maxB_val, ← hc]; exact hjV
  obtain ⟨l, hl, hlV, hlmin⟩ := allMin_hits σ.cv σ.v V hv (by
    obtain ⟨k, hk⟩ := allMax_mem σ.cv (ln 0)
    obtain ⟨k, rfl⟩ := eq_ln k
    exact ⟨k, hk.symm.trans (hmV _)⟩)
  have ht := chunkAt_ln j l σ.j σ.l hj hl
  -- the chunk
  have hsv : ∀ k, σ.sv (ln k) = val σ.s (pos (cpos j l) k) := fun k => gath_run _ σ.s (chunkAt σ.j σ.l) k (pos (cpos j l) k) (ht k)
  have hsv' : σ.sv = chunk σ.s (cpos j l) := by
    funext y; obtain ⟨k, rfl⟩ := eq_ln y; exact hsv k
  have hsV : ∀ y, (allMax (F := Ideal) σ.sv y : EReal) = V := fun y => by
    rw [hsv', ← maxC_val, ← hm, ← hcv]; exact hlV
  obtain ⟨i, hi, hiV, himin⟩ := allMin_hits σ.sv σ.v V hv (by
    obtain ⟨k, hk⟩ := allMax_mem σ.sv (ln 0)
    obtain ⟨k, rfl⟩ := eq_ln k
    exact ⟨k, hk.symm.trans (hsV _)⟩)
  set p : Fin 4096 := pos (cpos j l) i with hp
  have hpV : val σ.s p = V := (hsv i).symm.trans hiV
  -- the scores afterwards
  obtain ⟨hs1, hs2⟩ := scat_run σ.s (chunkAt σ.j σ.l) σ.sv' (pos (cpos j l)) (fun _ _ h => (pos_inj.mp h).2) ht
  rw [← step_s] at hs1 hs2
  have hstep : ∀ q, val σ.step.s q = if q = p then (⊥ : EReal) else val σ.s q := by
    intro q
    obtain ⟨t, k, rfl⟩ := pos_surj q
    by_cases h : t = cpos j l
    · subst h
      have e1 : val σ.step.s (pos (cpos j l) k) = σ.sv' (ln k) := hs1 k
      have e2 : σ.sv' (ln k) = if k = i then (⊥ : EReal) else σ.sv (ln k) := knock_apply i σ.l2 hi σ.sv k
      rw [e1, e2, hsv]
      by_cases h2 : k = i
      · rw [if_pos h2, if_pos (by rw [hp, h2])]
      · rw [if_neg h2, if_neg (fun e => h2 (pos_inj.mp e).2)]
    · rw [if_neg (fun e => h (pos_inj.mp e).1)]
      exact hs2 _ fun k' e => h (pos_inj.mp e).1.symm
  have hchunk : σ.sv' = chunk σ.step.s (cpos j l) := by
    funext y; obtain ⟨k, rfl⟩ := eq_ln y; exact (hs1 k).symm
  -- the chunk maxima afterwards
  obtain ⟨hm1, hm2⟩ := scat_run σ.m (blockAt σ.j) σ.cv' (cpos j) (fun _ _ h => (cpos_inj.mp h).2) hb
  rw [← step_m] at hm1 hm2
  have hmstep : σ.step.m = maxC σ.step.s := by
    refine vec_ext (N := 256) fun q => ?_
    obtain ⟨t, k, rfl⟩ := cpos_surj q
    have hother : cpos t k ≠ cpos j l → val σ.m (cpos t k) = val (maxC σ.step.s) (cpos t k) := fun hne => by
      have e3 : chunk σ.s (cpos t k) = chunk σ.step.s (cpos t k) := by
        funext y
        obtain ⟨k', rfl⟩ := eq_ln y
        exact ((hstep (pos (cpos t k) k')).trans (if_neg fun e => hne (pos_inj.mp e).1)).symm
      rw [hm, maxC_val σ.s _ (ln 0), maxC_val σ.step.s _ (ln 0), e3]
    by_cases h : t = j
    · subst h
      have e1 : val σ.step.m (cpos t k) = σ.cv' (ln k) := hm1 k
      have e2 : σ.cv' (ln k) = if k = l then allMax (F := Ideal) σ.sv' (ln k) else σ.cv (ln k) := putLane_apply l σ.l hl _ σ.cv k
      rw [e1, e2]
      by_cases h2 : k = l
      · subst h2
        rw [if_pos rfl, hchunk, maxC_val]
      · rw [if_neg h2, hcv]
        exact hother fun e => h2 (cpos_inj.mp e).2
    · refine (hm2 _ fun k' e => h (cpos_inj.mp e).1.symm).trans ?_
      exact hother fun e => h (cpos_inj.mp e).1
  have hblock : σ.cv' = chunk256 σ.step.m j := by
    funext y; obtain ⟨k, rfl⟩ := eq_ln y; exact (hm1 k).symm
  have hcstep : σ.step.c = maxB σ.step.m := by
    refine vec_ext (N := 16) fun q => ?_
    have e2 : val σ.step.c q = if q = j then allMax (F := Ideal) σ.cv' (ln q) else σ.c (ln q) := by
      rw [step_c]; exact putLane_apply j σ.j hj _ σ.c q
    rw [e2]
    by_cases h : q = j
    · subst h
      rw [if_pos rfl, hblock, maxB_val]
    · rw [if_neg h]
      show val σ.c q = _
      have e3 : chunk256 σ.m q = chunk256 σ.step.m q := by
        funext y
        obtain ⟨k', rfl⟩ := eq_ln y
        exact (hm2 (cpos q k') fun k e => h (cpos_inj.mp e).1.symm).symm
      rw [hc, maxB_val σ.m _ (ln 0), maxB_val σ.step.m _ (ln 0), e3]
  -- every score is at most the value taken
  have hmc : ∀ t k, val σ.m (cpos t k) ≤ val σ.c t := fun t k => by rw [hc]; exact maxB_ge σ.m t k
  have hsm : ∀ t k, val σ.s (pos t k) ≤ val σ.m t := fun t k => by rw [hm]; exact maxC_ge σ.s t k
  refine ⟨⟨fun y => ?_, fun y => ?_⟩, ⟨hmstep, hcstep⟩, p, fun q => ?_, fun q hq hqV => ?_, hstep⟩
  · obtain ⟨k, rfl⟩ := eq_ln y; rw [hb]; exact (cpos j k).isLt
  · obtain ⟨k, rfl⟩ := eq_ln y; rw [ht]; exact (pos (cpos j l) k).isLt
  · rw [hpV]
    obtain ⟨t, k, rfl⟩ := pos_surj q
    obtain ⟨t, k', rfl⟩ := cpos_surj t
    exact (hsm _ _).trans ((hmc _ _).trans (hcV _))
  · rw [hpV] at hqV
    obtain ⟨t, k, rfl⟩ := pos_surj q
    obtain ⟨t, k', rfl⟩ := cpos_surj t
    have h1 : val σ.m (cpos t k') = V := le_antisymm ((hmc _ _).trans (hcV _)) (hqV ▸ hsm _ _)
    have h2 : val σ.c t = V := le_antisymm (hcV _) (h1 ▸ hmc _ _)
    have hlt : 16 * (16 * t.val + k'.val) + k.val < 16 * (16 * j.val + l.val) + i.val := hq
    have hjt : j ≤ t := not_lt.mp fun h => hjmin t h h2
    have hjt' : j.val ≤ t.val := hjt
    obtain rfl : t = j := Fin.ext (by omega)
    have hll : l ≤ k' := not_lt.mp fun h => hlmin k' h ((hcv k').trans h1)
    have hll' : l.val ≤ k'.val := hll
    obtain rfl : k' = l := Fin.ext (by omega)
    exact himin k (show k.val < i.val by omega) ((hsv k).trans hqV)

theorem run_inv (σ : St Ideal) (hI : Inv σ) : ∀ n, Inv (σ.run n)
  | 0 => hI
  | n + 1 => by rw [St.run_succ]; exact (step_spec _ (run_inv σ hI n)).2.1

theorem inv0 (a : Vec Ideal S4096 .i32) (s : Vec Ideal S4096 .f32) : Inv (st0 a s) := ⟨rfl, rfl⟩

/-- Over the extended reals every row's selections stay in range. -/
theorem okRow (a : Vec Ideal S4096 .i32) (s : Vec Ideal S4096 .f32) : OkRow (F := Ideal) a s :=
  fun n _ => (step_spec _ (run_inv _ (inv0 a s) n)).1

end Cert.Proof.Select
-- ==== Proof.Ends.lean ====
/-
  How both programs end: the kernel's arguments keep their contents, every counter is zero again; the same of the reference.
-/
module

public import Idealize.ShloMosaic.Lib.Pipeline.RegionArraysS
public import proofs.«01_k».proof.Defs
public import proofs.«01_k».proof.Proof.Main
public import proofs.«01_k».proof.Proof.Order
public import proofs.«01_k».proof.Proof.Gen.ReferenceIdeal
public import proofs.«01_k».proof.Proof.Gen.ReferenceIdeal.Run

@[expose] public section

set_option maxRecDepth 16384

noncomputable section

namespace Cert.Proof.Select

open Cert.KernelIdeal Cert.KernelIdeal.Gen
open Idealize.ShloMosaic Idealize.ShloMosaic.TcCoe
open Idealize.SL.Sem

section Kept
variable {F : FTy → Type} [FloatOps F]
variable (m : (ℓ : Loc nD τ sig) → Buf (Elt F) ℓ)

/-- An array no operation before the region writes. -/
theorem VA_keep (d : Dev nD) (r : Ref sig .tc) (h : r ≠ main_v0 ∧ r ≠ main_v1 ∧ r ≠ main_c ∧ r ≠ main_call0_v0 ∧ r ≠ main_v2) : VA m d (rf r) = m (d, rf r) := by
  obtain ⟨h0, h1, h2, h3, h4⟩ := h
  unfold VA
  rw [StableHlo.result_of_writes_ne op5 _ main_v2 r rfl h4, StableHlo.result_of_writes_ne op4 _ main_call0_v0 r rfl h3,
    StableHlo.result_of_writes_ne op3 _ main_c r rfl h2, StableHlo.result_of_writes_ne op2 _ main_v1 r rfl h1,
    StableHlo.result_of_writes_ne op1 _ main_v0 r rfl h0]
  rfl

theorem VB_keep (d : Dev nD) (r : Ref sig .tc) (h : r ≠ main_v3) : VB m d (rf r) = VA m d (rf r) := by
  refine Pipeline.afterRegion_keeps (dat (VA m) d) (VA m d) winFacts0.arr_inj (fun w => rfl) r fun w hw => ?_
  match w with
  | ⟨0, _⟩ => rfl
  | ⟨1, _⟩ => rfl
  | ⟨2, _⟩ => rfl
  | ⟨3, _⟩ => rfl
  | ⟨4, _⟩ => exact absurd hw.symm h

theorem VC_keep (d : Dev nD) (r : Ref sig .tc) (h : r ≠ main_v4 ∧ r ≠ main_v5 ∧ r ≠ main_v6 ∧ r ≠ main_v7) : VC m d (rf r) = VB m d (rf r) := by
  obtain ⟨h0, h1, h2, h3⟩ := h
  unfold VC
  rw [StableHlo.result_of_writes_ne op9 _ main_v7 r rfl h3, StableHlo.result_of_writes_ne op8 _ main_v6 r rfl h2,
    StableHlo.result_of_writes_ne op7 _ main_v5 r rfl h1, StableHlo.result_of_writes_ne op6 _ main_v4 r rfl h0]

theorem VE_keep (d : Dev nD) (r : Ref sig .tc) (h : r ≠ main_v9 ∧ r ≠ main_v8) : VE m d (rf r) = VC m d (rf r) := by
  unfold VE VD
  rw [StableHlo.result_of_writes_ne op10 _ main_v9 r rfl h.1]
  exact Function.update_of_ne (fun e => h.2 (Proc.devRef_injective _ e)) _ _

/-- An argument ends as it began. -/
theorem arg_keep (d : Dev nD) (r : Ref sig .tc) (h : (r ≠ main_v0 ∧ r ≠ main_v1 ∧ r ≠ main_c ∧ r ≠ main_call0_v0 ∧ r ≠ main_v2) ∧ r ≠ main_v3
    ∧ (r ≠ main_v4 ∧ r ≠ main_v5 ∧ r ≠ main_v6 ∧ r ≠ main_v7) ∧ r ≠ main_v9 ∧ r ≠ main_v8) : VE m d (rf r) = m (d, rf r) := by
  rw [VE_keep m d r h.2.2.2, VC_keep m d r h.2.2.1, VB_keep m d r h.2.1, VA_keep m d r h.1]

theorem mem_uc (r : Ref sig .tc) (h : (rf r).isScoped = false) : rf r ∈ Pipeline.ucRefs τ sig :=
  Finset.mem_filter.mpr ⟨Finset.mem_map.mpr ⟨_, Finset.mem_univ _, rfl⟩, by rw [h]; decide⟩

variable (ρ : Dev nD → PrngReg)

/-- The run: the result's array, the arguments' and the counters. -/
theorem run_ends [∀ e, Nonempty (Elt F e)] (hok : ∀ d, ∀ w < 4, OkRow (F := F) (rowAt (mkA m d) w) (rowAt (scA m d) w)) :
    θ_run (defs (F := F)) (threads (F := F)) ⟨m, fun _ => 0, ρ⟩ fun r =>
      (∀ c : Dev nD, r.2.mem ((c.tc : Thread nD τ).loc main_v9) = VE m c (rf main_v9)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0 :=
  (θ_run _ _ _).mono (fun r h => ⟨fun c => ⟨h.1 c (rf main_v9) (mem_uc _ (by decide)),
      (h.1 c (rf main_arg0) (mem_uc _ (by decide))).trans (arg_keep m c main_arg0 (by decide)),
      (h.1 c (rf main_arg1) (mem_uc _ (by decide))).trans (arg_keep m c main_arg1 (by decide)),
      (h.1 c (rf main_arg2) (mem_uc _ (by decide))).trans (arg_keep m c main_arg2 (by decide)),
      (h.1 c (rf main_arg3) (mem_uc _ (by decide))).trans (arg_keep m c main_arg3 (by decide)),
      (h.1 c (rf main_arg4) (mem_uc _ (by decide))).trans (arg_keep m c main_arg4 (by decide)),
      (h.1 c (rf main_arg5) (mem_uc _ (by decide))).trans (arg_keep m c main_arg5 (by decide))⟩, h.2⟩) (run_main m ρ hok)

end Kept

theorem okAll (m : (ℓ : Loc nD τ sig) → Buf (Elt Ideal) ℓ) : ∀ d, ∀ w < 4, OkRow (F := Ideal) (rowAt (mkA m d) w) (rowAt (scA m d) w) :=
  fun d w _ => okRow (rowAt (mkA m d) w) (rowAt (scA m d) w)

/-- The kernel's frame. -/
theorem frameK (m : (ℓ : Loc nD τ sig) → Buf (Elt Ideal) ℓ) (ρ : Dev nD → PrngReg) :
    θ_run (defs (F := Ideal)) (threads (F := Ideal)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0 :=
  (θ_run _ _ _).mono (fun _ h => ⟨fun c => (h.1 c).2, h.2⟩) (run_ends m ρ (okAll m))

end Cert.Proof.Select

namespace Cert.Proof.Plain

open Cert.ReferenceIdeal Cert.ReferenceIdeal.Gen
open Idealize.ShloMosaic Idealize.ShloMosaic.TcCoe
open Idealize.SL.Sem

/-- The reference's frame: it has no counter. -/
theorem frameR (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0 :=
  (θ_run _ _ _).mono (fun _ h => ⟨fun c => (h c).2, sem_eq_zero_of_no_sems (by decide) _⟩) (Cert.ReferenceIdeal.Value.run (F := Ideal) m ρ)

end Cert.Proof.Plain
-- ==== Proof.Payload.lean ====
/-
  The scorer's block, read at an entry, and the arrays the TensorCore's call finds.
-/
module

public import Idealize.ShloMosaic.Lib.Pointwise
public import Idealize.ShloMosaic.Lib.Pipeline.ValueKit
public import proofs.«01_k».proof.Proof.Ends

@[expose] public section

set_option maxRecDepth 16384

noncomputable section

namespace Cert.Proof.Select

open Cert.KernelIdeal Cert.KernelIdeal.Gen
open Idealize.ShloMosaic hiding ix0 ix1 ix2 ix3 eq_ix2 eq_ix3
open Idealize.ShloMosaic.TcCoe
open Idealize.ShloMosaic.ValueIdx

theorem pay_apply (x w1 : FVec Ideal S1024x2048 .f32) (b1 : FVec Ideal S1x1024 .f32) (w2 : FVec Ideal S128x1024 .f32) (r : Fin 1024) :
    (k0_pay1 (F := Ideal) x w1 b1 w2 (ix3 0 0 r) : EReal)
      = ∑ k : Fin 1024, max ((∑ j : Fin 2048, (x (ix2 r j) : EReal) * (w1 (ix2 k j) : EReal)) + (b1 (ix2 0 k) : EReal)) 0 * (w2 (ix2 0 k) : EReal) := by
  unfold k0_pay1
  pointwise
  rfl

variable (m : (ℓ : Loc nD τ sig) → Buf (Elt Ideal) ℓ)

theorem VA_v0 (d : Dev nD) : (VA m d (rf main_v0) : FVec Ideal S16384x2048 .f32) = shapeCast S16384x2048 (m (d, rf main_arg0)) shapeCasts_S4x4096x2048_S16384x2048 := by
  unfold VA
  rw [StableHlo.result_of_writes_ne op5 _ main_v2 main_v0 rfl (by decide), StableHlo.result_of_writes_ne op4 _ main_call0_v0 main_v0 rfl (by decide),
    StableHlo.result_of_writes_ne op3 _ main_c main_v0 rfl (by decide), StableHlo.result_of_writes_ne op2 _ main_v1 main_v0 rfl (by decide)]
  exact StableHlo.reshape_result ..

theorem VA_v1 (d : Dev nD) : (VA m d (rf main_v1) : FVec Ideal S1x1024 .f32) = shapeCast S1x1024 (m (d, rf main_arg3)) shapeCasts_S1024_S1x1024 := by
  unfold VA
  rw [StableHlo.result_of_writes_ne op5 _ main_v2 main_v1 rfl (by decide), StableHlo.result_of_writes_ne op4 _ main_call0_v0 main_v1 rfl (by decide),
    StableHlo.result_of_writes_ne op3 _ main_c main_v1 rfl (by decide)]
  refine (StableHlo.reshape_result ..).trans ?_
  rw [StableHlo.result_of_writes_ne op1 _ main_v0 main_arg3 rfl (by decide)]
  rfl

theorem VA_v2 (d : Dev nD) : (VA m d (rf main_v2) : FVec Ideal S128x1024 .f32)
    = pad S128x1024 ![0, 0] ![127, 0] ![0, 0] (m (d, rf main_arg4) : FVec Ideal S1x1024 .f32) (sitofp (F := Ideal) .f32 (constantI S_ 32 0#32)) pads_S1x1024_S128x1024_01270_000 h_S_ := by
  unfold VA
  refine (StableHlo.binary_result ..).trans ?_
  rw [StableHlo.result_of_writes_ne op4 _ main_call0_v0 main_arg4 rfl (by decide),
    StableHlo.result_of_writes_ne op3 _ main_c main_arg4 rfl (by decide), StableHlo.result_of_writes_ne op2 _ main_v1 main_arg4 rfl (by decide),
    StableHlo.result_of_writes_ne op1 _ main_v0 main_arg4 rfl (by decide)]
  have e : op4.result (op3.result (op2.result (op1.result (V0 m d)))) (rf main_call0_v0) = sitofp (F := Ideal) .f32 (constantI S_ 32 0#32) := by
    refine (StableHlo.unary_result ..).trans ?_
    have e' : op3.result (op2.result (op1.result (V0 m d))) (rf main_c) = constantI S_ 32 0#32 := StableHlo.nullary_result ..
    rw [e']
    rfl
  rw [e]
  rfl

theorem pad_row (X : FVec Ideal S1x1024 .f32) (v : FVec Ideal S_ .f32) (k : Fin 1024) :
    pad S128x1024 ![0, 0] ![127, 0] ![0, 0] X v pads_S1x1024_S128x1024_01270_000 h_S_ (ix2 0 k) = X (ix2 0 k) := by
  pointwise
  rfl

theorem VA_v2_row (d : Dev nD) (k : Fin 1024) : (VA m d (rf main_v2) : FVec Ideal S128x1024 .f32) (ix2 0 k) = (m (d, rf main_arg4) : FVec Ideal S1x1024 .f32) (ix2 0 k) := by
  rw [VA_v2]
  exact pad_row _ _ k

theorem VA_v0_row (d : Dev nD) (n : Fin 16384) (j : Fin 2048) : (VA m d (rf main_v0) : FVec Ideal S16384x2048 .f32) (ix2 n j)
    = (m (d, rf main_arg0) : FVec Ideal S4x4096x2048 .f32) (ix3 ⟨n.val / 4096, by omega⟩ ⟨n.val % 4096, Nat.mod_lt _ (by decide)⟩ j) := by
  rw [VA_v0]
  have e : ∀ X : FVec Ideal S4x4096x2048 .f32, shapeCast S16384x2048 X shapeCasts_S4x4096x2048_S16384x2048 (ix2 n j)
      = X (ix3 ⟨n.val / 4096, by omega⟩ ⟨n.val % 4096, Nat.mod_lt _ (by decide)⟩ j) := by
    intro X
    pointwise
    rfl
  exact e _

theorem VA_v1_row (d : Dev nD) (k : Fin 1024) : (VA m d (rf main_v1) : FVec Ideal S1x1024 .f32) (ix2 0 k) = (m (d, rf main_arg3) : FVec Ideal S1024 .f32) (ix1 k) := by
  rw [VA_v1]
  have e : ∀ X : FVec Ideal S1024 .f32, shapeCast S1x1024 X shapeCasts_S1024_S1x1024 (ix2 0 k) = X (ix1 k) := by
    intro X
    pointwise
    rfl
  exact e _

theorem VA_arg2 (d : Dev nD) : VA m d (rf main_arg2) = m (d, rf main_arg2) := VA_keep m d main_arg2 (by decide)

/-! ## The blocks a grid point reads -/

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val, 0, 0] := by decide +kernel

theorem lt16 (t : Fin cfg0.N) : t.val < 16 := t.isLt

variable (W : Dev nD → Valuation τ sig (Elt Ideal))

theorem blk0_apply (d : Dev nD) (t : Fin cfg0.N) (r : Fin 1024) (j : Fin 2048) :
    blk0 W d t (ix2 r j) = (W d (rf main_v0) : FVec Ideal S16384x2048 .f32) (ix2 ⟨1024 * t.val + r.val, by have := lt16 t; omega⟩ j) := by
  unfold blk0
  blk_simp [idx0]
  refine congrArg (W d (rf main_v0)) ?_
  blk_ext [idx0]
  show t.val * 1024 + r.val = 1024 * t.val + r.val
  omega

theorem blk1_apply (d : Dev nD) (t : Fin cfg0.N) (k : Fin 1024) (j : Fin 2048) :
    blk1 W d t (ix2 k j) = (W d (rf main_arg2) : FVec Ideal S1024x2048 .f32) (ix2 k j) := by
  unfold blk1
  blk_simp [idx1]
  refine congrArg (W d (rf main_arg2)) ?_
  blk_ext [idx1]

theorem blk2_apply (d : Dev nD) (t : Fin cfg0.N) (k : Fin 1024) :
    blk2 W d t (ix2 0 k) = (W d (rf main_v1) : FVec Ideal S1x1024 .f32) (ix2 0 k) := by
  unfold blk2
  blk_simp [idx2]
  refine congrArg (W d (rf main_v1)) ?_
  blk_ext [idx2]

theorem blk3_apply (d : Dev nD) (t : Fin cfg0.N) (k : Fin 1024) :
    blk3 W d t (ix2 0 k) = (W d (rf main_v2) : FVec Ideal S128x1024 .f32) (ix2 0 k) := by
  unfold blk3
  blk_simp [idx3]
  refine congrArg (W d (rf main_v2)) ?_
  blk_ext [idx3]

end Cert.Proof.Select
-- ==== Proof.Picks.lean ====
/-
  Repeated selection of the first largest element gives the same positions as a stable sort from the largest down.
-/
module

public import Idealize.ShloMosaic.Lib.SortPrefix
public import Idealize.ShloMosaic.Lib.SortFacts
public import Mathlib.Data.EReal.Basic

@[expose] public section

noncomputable section

namespace Cert.Proof.Select

open Idealize.ShloMosaic

/-! ## The selections -/

section Pick
variable {N : ℕ} (s : ℕ → Fin N → EReal) (p : ℕ → Fin N)
  (hmax : ∀ n q, s n q ≤ s n (p n)) (hfirst : ∀ n, ∀ q < p n, s n q ≠ s n (p n))
  (hstep : ∀ n q, s (n + 1) q = if q = p n then (⊥ : EReal) else s n q) (h0 : ∀ q, s 0 q ≠ ⊥)

/-- `a` comes before `b`: a larger value, or an equal one at a smaller position. -/
def Before (x : Fin N → EReal) (a b : Fin N) : Prop := x b < x a ∨ (x a = x b ∧ a < b)

include hstep in
theorem pick_closed (n : ℕ) (q : Fin N) : ((∃ k < n, p k = q) → s n q = ⊥) ∧ ((∀ k < n, p k ≠ q) → s n q = s 0 q) := by
  induction n with
  | zero => exact ⟨fun ⟨k, hk, _⟩ => absurd hk (Nat.not_lt_zero k), fun _ => rfl⟩
  | succ n ih =>
    rw [hstep]
    by_cases h : q = p n
    · rw [if_pos h]
      exact ⟨fun _ => rfl, fun hk => absurd h.symm (hk n (Nat.lt_succ_self n))⟩
    · rw [if_neg h]
      refine ⟨fun ⟨k, hk, e⟩ => ih.1 ⟨k, ?_, e⟩, fun hk => ih.2 fun k hk' => hk k (Nat.lt_succ_of_lt hk')⟩
      rcases Nat.lt_succ_iff_lt_or_eq.mp hk with h' | h'
      · exact h'
      · exact absurd (h' ▸ e).symm h

include hmax hstep h0 in
theorem pick_new (n : ℕ) (hn : n < N) : ∀ k < n, p k ≠ p n := by
  intro k hk e
  have hb : s n (p n) = ⊥ := (pick_closed s p hstep n (p n)).1 ⟨k, hk, e⟩
  obtain ⟨q, hq⟩ : ∃ q, q ∉ (Finset.range n).image p := by
    by_contra hcon
    have hall : (Finset.range n).image p = Finset.univ := Finset.eq_univ_of_forall fun q => by
      by_contra h; exact hcon ⟨q, h⟩
    have h1 := Finset.card_image_le (s := Finset.range n) (f := p)
    rw [hall, Finset.card_univ, Fintype.card_fin, Finset.card_range] at h1
    omega
  have hs : s n q = s 0 q := (pick_closed s p hstep n q).2 fun k hk e => hq (Finset.mem_image.mpr ⟨k, Finset.mem_range.mpr hk, e⟩)
  have := hmax n q
  rw [hs, hb, le_bot_iff] at this
  exact h0 q this

include hmax hfirst hstep h0 in
theorem pick_before (n : ℕ) (hn : n < N) (q : Fin N) (hq : ∀ k ≤ n, p k ≠ q) : Before (s 0) (p n) q := by
  have hp : s n (p n) = s 0 (p n) := (pick_closed s p hstep n (p n)).2 (pick_new s p hmax hstep h0 n hn)
  have hs : s n q = s 0 q := (pick_closed s p hstep n q).2 fun k hk => hq k hk.le
  have hle := hmax n q
  rw [hp, hs] at hle
  rcases hle.lt_or_eq with h | h
  · exact Or.inl h
  · refine Or.inr ⟨h.symm, ?_⟩
    rcases lt_trichotomy q (p n) with h' | h' | h'
    · exact absurd (hs.trans (h.trans hp.symm)) (hfirst n q h')
    · exact absurd h'.symm (hq n le_rfl)
    · exact h'

include hmax hstep h0 in
theorem pick_bot (n : ℕ) (q : Fin N) : s n q = ⊥ ↔ ∃ k < n, p k = q := by
  constructor
  · intro h
    by_contra hcon
    exact h0 q (((pick_closed s p hstep n q).2 fun k hk e => hcon ⟨k, hk, e⟩).symm.trans h)
  · exact (pick_closed s p hstep n q).1
end Pick

/-! ## The sort -/

/-- On a list in order, a stable sort may look at the positions as well. -/
theorem stableSort_ordered {ι : Type} (R R' : ι → ι → Bool) (P : ι → ι → Prop) (h : ∀ a b, P a b → R b a = R' b a) :
    ∀ l : List ι, l.Pairwise P → stableSort R l = stableSort R' l
  | [], _ => rfl
  | a :: l, hl => by
    have hl' := List.pairwise_cons.mp hl
    show insertBefore R a (stableSort R l) = insertBefore R' a (stableSort R' l)
    rw [stableSort_ordered R R' P h l hl'.2]
    exact insertBefore_congr R R' a _ fun b hb => h a b (hl'.1 b ((perm_stableSort R' l).mem_iff.mp hb))

theorem sortedFrom_ordered {n : ℕ} (R R' : Fin n → Fin n → Bool) (h : ∀ a b, a < b → R b a = R' b a) : sortedFrom R = sortedFrom R' := by
  funext k
  have e : sortPositions n R = sortPositions n R' := stableSort_ordered R R' (· < ·) h _ (List.pairwise_lt_finRange n)
  unfold sortedFrom
  rw [List.get_of_eq e]
  rfl

/-- The first positions of a stable sort from the largest down. -/
theorem sortedFrom_picks {n k : ℕ} (hk : k ≤ n) (x : Fin n → EReal) (σ : Fin k → Fin n) (hinj : Function.Injective σ)
    (hord : ∀ i j, i < j → Before x (σ i) (σ j)) (hdom : ∀ i q, (∀ j, σ j ≠ q) → Before x (σ i) q) (i : Fin k) :
    sortedFrom (fun a b => decide (x b < x a)) (i.castLE hk) = σ i := by
  have hB : StrictTotalBefore fun a b : Fin n => decide (x b < x a) || (decide (x a = x b) && decide (a < b)) :=
    StrictTotalBefore.of_key_then_position (fun u v : EReal => decide (v < u)) x (fun u => by simp)
      (fun u v w h h' => by simp only [decide_eq_true_eq] at *; exact lt_trans h' h)
      (fun u v => by
        simp only [decide_eq_true_eq]
        rcases lt_trichotomy u v with h | h | h
        · exact Or.inr (Or.inr h)
        · exact Or.inr (Or.inl h)
        · exact Or.inl h)
  have hnb : ∀ a b, Before x a b → (decide (x a < x b) || (decide (x b = x a) && decide (b < a))) = false := by
    intro a b h
    rcases h with h | ⟨h, h'⟩
    · rw [decide_eq_false (not_lt.mpr h.le), decide_eq_false h.ne]; rfl
    · rw [decide_eq_false (by rw [h]; exact lt_irrefl _), decide_eq_false (not_lt.mpr h'.le), Bool.and_false]; rfl
  rw [sortedFrom_ordered _ (fun a b : Fin n => decide (x b < x a) || (decide (x a = x b) && decide (a < b))) (fun a b h => by
    show decide (x a < x b) = (decide (x a < x b) || (decide (x b = x a) && decide (b < a)))
    rw [decide_eq_false (not_lt.mpr h.le), Bool.and_false, Bool.or_false])]
  exact hB.sortedFrom_eq_of_prefix hk σ hinj (fun i j h => hnb _ _ (hord i j h)) (fun i q h => hnb _ _ (hdom i q h)) i

end Cert.Proof.Select
-- ==== Proof.Sorted.lean ====
/-
  The reference's top-k and its two scatters, read at an entry.
-/
module

public import Idealize.ShloMosaic.Lib.Routing.OpsOne
public import Idealize.ShloMosaic.Lib.Pointwise
public import proofs.«01_k».proof.Proof.Picks
public import proofs.«01_k».proof.Proof.Gen.ReferenceIdeal

@[expose] public section

set_option maxRecDepth 16384

noncomputable section

namespace Cert.Proof.Plain

open Cert.ReferenceIdeal Cert.ReferenceIdeal.Gen
open Idealize.ShloMosaic hiding ix0 ix1 ix2 ix3 eq_ix2
open Idealize.ShloMosaic.ValueIdx Idealize.ShloMosaic.Routing
open Cert.Proof.Select (Before sortedFrom_picks)

theorem lim : 64 ≤ 4096 := by decide

theorem along_row (w : Fin 4) (n k : Fin 4096) : Shape.Idx.along (s := S4x4096) (ix2 w n) 1 k = ix2 w k := by
  funext a
  match a with
  | ⟨0, _⟩ => rfl
  | ⟨1, _⟩ => rfl

theorem sorted_eq {R R' : Fin 4096 → Fin 4096 → Bool} {a b : Fin 4096} (h : ∀ k k', R k k' = R' k k') (e : a = b) : sortedFrom R a = sortedFrom R' b := by
  obtain rfl : R = R' := funext fun k => funext (h k)
  rw [e]

theorem iota_along (w : Fin 4) (n k : Fin 4096) : iotaInDim S4x4096 32 1 (Shape.Idx.along (s := S4x4096) (ix2 w n) 1 k) = BitVec.ofNat 32 k.val := by
  rw [along_row]
  rfl

/-- The position the reference's top-k gives in row `w` at place `n`. -/
theorem topK_index (x : FVec Ideal S4x4096 .f32) (w : Fin 4) (σ : Fin 64 → Fin 4096) (hinj : Function.Injective σ)
    (hord : ∀ i j, i < j → Before (fun q => (x (ix2 w q) : EReal)) (σ i) (σ j))
    (hdom : ∀ i q, (∀ j, σ j ≠ q) → Before (fun q => (x (ix2 w q) : EReal)) (σ i) q) (h : S4x4096.Slices (fun _ => 0) S4x64) (n : Fin 64) :
    (Host.topK S4x64 1 (FloatOps.cmpfTotal (F := Ideal) (φ := .f32) .gt) x h).2 (ix2 w n) = BitVec.ofNat 32 (σ n).val := by
  have e1 : (Host.topK S4x64 1 (FloatOps.cmpfTotal (F := Ideal) (φ := .f32) .gt) x h).2 (ix2 w n)
      = BitVec.ofNat 32 (sortedFrom (fun k k' : Fin 4096 => FloatOps.cmpfTotal (F := Ideal) (φ := .f32) .gt (x (Shape.Idx.along (s := S4x4096) (ix2 w (n.castLE lim)) 1 k)) (x (Shape.Idx.along (s := S4x4096) (ix2 w (n.castLE lim)) 1 k')) == 1#1) (n.castLE lim)).val := by
    unfold Host.topK
    dsimp only
    refine (extractStridedSlice_apply _ _ h (ix2 w n) (ix2 w (n.castLE lim)) fun a => ?_).trans ?_
    · match a with
      | ⟨0, _⟩ => exact (Nat.zero_add _).symm
      | ⟨1, _⟩ => exact (Nat.zero_add _).symm
    · unfold Host.sort2
      rw [dif_pos (show 1 < S4x4096.rank by decide)]
      dsimp only
      rw [dif_pos (show 1 < S4x4096.rank by decide)]
      refine (iota_along w (n.castLE lim) _).trans ?_
      exact congrArg (fun z : Fin 4096 => BitVec.ofNat 32 z.val) (sorted_eq (fun _ _ => rfl) rfl)
  rw [e1]
  have e2 : (fun k k' : Fin 4096 => FloatOps.cmpfTotal (F := Ideal) (φ := .f32) .gt (x (Shape.Idx.along (s := S4x4096) (ix2 w (n.castLE lim)) 1 k)) (x (Shape.Idx.along (s := S4x4096) (ix2 w (n.castLE lim)) 1 k')) == 1#1)
      = fun k k' : Fin 4096 => decide ((x (ix2 w k') : EReal) < x (ix2 w k)) := by
    funext k k'
    rw [along_row, along_row]
    show (BitVec.ofBool (decide ((x (ix2 w k') : EReal) < x (ix2 w k))) == 1#1) = _
    cases decide ((x (ix2 w k') : EReal) < x (ix2 w k)) <;> rfl
  rw [e2, sortedFrom_picks lim (fun q => (x (ix2 w q) : EReal)) σ hinj hord hdom n]

/-- The index words of the first scatter: the row, and the position `t` names. -/
def pairs (t : IVec S4x64 32) : IVec S4x64x2 32 :=
  concatenate S4x64x2 2 [⟨S4x64x1, (broadcastInDim S4x64x1 ![0, 1] bcast_S4x64_S4x64x1_0_1 (broadcastInDim S4x64 ![0, 1] bcast_S4x1_S4x64_0_1 (select (cmpi .slt (broadcastInDim S4x1 ![0] bcast_S4_S4x1_0 (iotaInDim S4 32 0)) (broadcastInDim S4x1 ![] bcast_S_S4x1 (constantI S_ 32 0#32))) (addi (broadcastInDim S4x1 ![0] bcast_S4_S4x1_0 (iotaInDim S4 32 0)) (broadcastInDim S4x1 ![] bcast_S_S4x1 (constantI S_ 32 4#32))) (broadcastInDim S4x1 ![0] bcast_S4_S4x1_0 (iotaInDim S4 32 0)))))⟩, ⟨S4x64x1, (broadcastInDim S4x64x1 ![0, 1] bcast_S4x64_S4x64x1_0_1 (select (cmpi .slt t (broadcastInDim S4x64 ![] bcast_S_S4x64 (constantI S_ 32 0#32))) (addi t (broadcastInDim S4x64 ![] bcast_S_S4x64 (constantI S_ 32 4096#32))) t))⟩] concatenates_S4x64x1_S4x64x1_S4x64x2_d2

/-- The mask the reference makes of the positions `t`. -/
def maskOf (t : IVec S4x64 32) : IVec S4x4096 32 :=
  Host.scatter scatter_S4x4096_S1_S4_0_1_1_0 (fun _ b => b) (Host.scatter scatter_S4x4096_S4x64x2_S4x64_n_01_01_2 (fun _ b => b) (broadcastInDim S4x4096 ![] bcast_S_S4x4096 (constantI S_ 32 0#32)) (pairs t) (broadcastInDim S4x64 ![] bcast_S_S4x64 (constantI S_ 32 1#32)))
   (broadcastInDim S1 ![] bcast_S_S1 (constantI S_ 32 0#32)) (broadcastInDim S4 ![] bcast_S_S4 (constantI S_ 32 1#32))

theorem pairs_zero (t : IVec S4x64 32) (w : Fin 4) (n : Fin 64) : pairs t (ix3 w n 0) = BitVec.ofNat 32 w.val := by
  have e : pairs t (ix3 w n 0) = Scalar.select (IntOp.cmpi .slt (BitVec.ofNat 32 w.val) 0#32) (BitVec.ofNat 32 w.val + 4#32) (BitVec.ofNat 32 w.val) := by
    unfold pairs
    pointwise
    rfl
  rw [e]
  refine wrap_of_lt _ _ ?_
  rw [BitVec.toNat_ofNat, Nat.mod_eq_of_lt (by omega)]
  omega

theorem pairs_one (t : IVec S4x64 32) (w : Fin 4) (n : Fin 64) (q : Fin 4096) (h : t (ix2 w n) = BitVec.ofNat 32 q.val) :
    pairs t (ix3 w n 1) = BitVec.ofNat 32 q.val := by
  have e : pairs t (ix3 w n 1) = Scalar.select (IntOp.cmpi .slt (t (ix2 w n)) 0#32) (t (ix2 w n) + 4096#32) (t (ix2 w n)) := by
    unfold pairs
    pointwise
    rfl
  rw [e, h]
  refine wrap_of_lt _ _ ?_
  rw [BitVec.toNat_ofNat, Nat.mod_eq_of_lt (by omega)]
  omega

theorem small_toInt (n : ℕ) (h : n < 4096) : (BitVec.ofNat 32 n).toInt = (n : Int) := by
  rw [BitVec.toInt_eq_toNat_of_lt (by rw [BitVec.toNat_ofNat, Nat.mod_eq_of_lt (by omega)]; omega), BitVec.toNat_ofNat, Nat.mod_eq_of_lt (by omega)]

/-- The reference's mask at an entry: one at position zero and at the positions named, zero elsewhere. -/
theorem maskOf_apply (t : IVec S4x64 32) (σ : Fin 4 → Fin 64 → Fin 4096) (ht : ∀ w n, t (ix2 w n) = BitVec.ofNat 32 (σ w n).val)
    (w : Fin 4) (q : Fin 4096) [Decidable (q.val = 0 ∨ ∃ n, σ w n = q)] :
    maskOf t (ix2 w q) = if q.val = 0 ∨ ∃ n, σ w n = q then 1#32 else 0#32 := by
  have lands : ∀ (k : S4x64.Idx) (w : Fin 4) (q : Fin 4096), scatter_S4x4096_S4x64x2_S4x64_n_01_01_2.resultIdx? k (pairs t) = some (ix2 w q) ↔ k 0 = w ∧ σ w (k 1) = q := by
    intro k w q
    obtain ⟨a, b, rfl⟩ : ∃ a b, k = ix2 a b := ⟨_, _, eq_ix2 k⟩
    refine (scatter_lands2 scatter_S4x4096_S4x64x2_S4x64_n_01_01_2 rfl rfl rfl (pairs t) a b w q).trans ?_
    rw [pairs_zero, pairs_one t a b (σ a b) (ht a b), small_toInt _ (by omega), small_toInt _ (by omega)]
    constructor
    · rintro ⟨h1, h2⟩
      obtain rfl : a = w := Fin.ext (by omega)
      exact ⟨rfl, Fin.ext (by show (σ a b).val = q.val; omega)⟩
    · rintro ⟨h1, h2⟩
      obtain rfl : a = w := h1
      have h2' : σ a b = q := h2
      subst h2'
      exact ⟨rfl, rfl⟩
  unfold maskOf
  refine (scatter_col_signed scatter_S4x4096_S1_S4_0_1_1_0 rfl rfl _ _ _ (0 : Fin 4096) rfl w q).trans ?_
  by_cases h0 : q = 0
  · rw [if_pos h0, if_pos (Or.inl (by rw [h0]; rfl))]
    rfl
  · rw [if_neg h0]
    by_cases hn : ∃ n, σ w n = q
    · rw [if_pos (Or.inr hn)]
      obtain ⟨n, hn⟩ := hn
      exact scatter_set_hit _ _ _ _ _ _ (fun k _ => rfl) (ix2 w n) ((lands _ _ _).mpr ⟨rfl, hn⟩)
    · rw [if_neg (fun h => h.elim (fun h => h0 (Fin.ext h)) hn)]
      exact scatter_set_miss _ _ _ _ _ fun k hk => hn ⟨_, ((lands _ _ _).mp hk).2⟩

end Cert.Proof.Plain
-- ==== Proof.Scores.lean ====
/-
  The reference's scores, read at an entry, and its result as the mask of the positions its top-k gives.
-/
module

public import Idealize.ShloMosaic.Lib.Tactic.CleanTypes
public import Idealize.ShloMosaic.Lib.Pointwise
public import proofs.«01_k».proof.Proof.Sorted
public import proofs.«01_k».proof.Proof.Gen.ReferenceIdeal.Run

@[expose] public section

set_option maxRecDepth 16384

noncomputable section

namespace Cert.Proof.Plain

open Cert.ReferenceIdeal Cert.ReferenceIdeal.Gen
open Idealize.ShloMosaic hiding ix0 ix1 ix2 ix3 eq_ix2
open Idealize.ShloMosaic.ValueIdx Idealize.ShloMosaic.Routing

/-- One score before the last bias: the second layer's sum over the hidden units. -/
def raw (X : FVec Ideal S4x4096x2048 .f32) (W1 : FVec Ideal S1024x2048 .f32) (b1 : FVec Ideal S1024 .f32) (W2 : FVec Ideal S1x1024 .f32)
    (w : Fin 4) (q : Fin 4096) : EReal :=
  ∑ k : Fin 1024, max ((∑ j : Fin 2048, (X (ix3 w q j) : EReal) * (W1 (ix2 k j) : EReal)) + (b1 (ix1 k) : EReal)) 0 * (W2 (ix2 0 k) : EReal)

/-- The reference's scores. -/
def scores (X : FVec Ideal S4x4096x2048 .f32) (a : IVec S4x4096 32) (W1 : FVec Ideal S1024x2048 .f32) (b1 : FVec Ideal S1024 .f32)
    (W2 : FVec Ideal S1x1024 .f32) (b2 : FVec Ideal S1 .f32) : FVec Ideal S4x4096 .f32 :=
  select (cmpi .ne a (broadcastInDim S4x4096 ![] bcast_S_S4x4096 (constantI S_ 32 0#32))) (shapeCast _ (addf (Host.dotGeneral dot_S4x4096x1024_S1024x1_S4x4096x1_2_0_01_1_n_n none (maximumf (addf (Host.dotGeneral dot_S4x4096x2048_S2048x1024_S4x4096x1024_2_0_01_1_n_n none X (transpose S2048x1024 [1, 0] W1 transposes_S1024x2048_S2048x1024_1_0)) (broadcastInDim S4x4096x1024 ![0, 1, 2] bcast_S1x1x1024_S4x4096x1024_0_1_2 (broadcastInDim S1x1x1024 ![2] bcast_S1024_S1x1x1024_2 b1))) (broadcastInDim S4x4096x1024 ![] bcast_S_S4x4096x1024 (constant S_ .f32 0x00000000#32))) (transpose S1024x1 [1, 0] W2 transposes_S1x1024_S1024x1_1_0)) (broadcastInDim S4x4096x1 ![0, 1, 2] bcast_S1x1x1_S4x4096x1_0_1_2 (broadcastInDim S1x1x1 ![2] bcast_S1_S1x1x1_2 b2))) shapeCasts_S4x4096x1_S4x4096) (broadcastInDim S4x4096 ![] bcast_S_S4x4096 (id (constant S_ .f32 0xFF800000#32)))

theorem out_eq (m : (ℓ : Loc nD τ sig) → Buf (Elt Ideal) ℓ) (c : Dev nD) :
    Cert.ReferenceIdeal.Value.res_main_v37 m c = maskOf (Host.topK S4x64 1 (FloatOps.cmpfTotal (F := Ideal) (φ := .f32) .gt) (scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) sliceFits_S4x4096_S4x64).2 := by
  unfold Cert.ReferenceIdeal.Value.res_main_v37 maskOf pairs scores
  rfl

/-- A score of a position the mask keeps. -/
theorem scores_apply (X : FVec Ideal S4x4096x2048 .f32) (a : IVec S4x4096 32) (W1 : FVec Ideal S1024x2048 .f32) (b1 : FVec Ideal S1024 .f32)
    (W2 : FVec Ideal S1x1024 .f32) (b2 : FVec Ideal S1 .f32) (w : Fin 4) (q : Fin 4096) (h : a (ix2 w q) ≠ 0#32) :
    (scores X a W1 b1 W2 b2 (ix2 w q) : EReal) = raw X W1 b1 W2 w q + (b2 (ix1 0) : EReal) := by
  unfold scores
  pointwise
  have e : IntOp.cmpi .ne (a (ix2 w q)) 0#32 = 1#1 := by
    show BitVec.ofBool (a (ix2 w q) != 0#32) = 1#1
    rw [bne_iff_ne.mpr h]
    rfl
  rw [e]
  rfl

end Cert.Proof.Plain
-- ==== Proof.Values.lean ====
/-
  The scores and the mask the SparseCores find, and the kernel's result.
-/
module

public import proofs.«01_k».proof.Proof.Payload
public import proofs.«01_k».proof.Proof.Scores

@[expose] public section

set_option maxRecDepth 16384

noncomputable section

namespace Cert.Proof.Select

open Cert.KernelIdeal Cert.KernelIdeal.Gen
open Idealize.ShloMosaic hiding ix0 ix1 ix2 ix3 eq_ix1 eq_ix2 eq_ix3
open Idealize.ShloMosaic.TcCoe
open Idealize.ShloMosaic.ValueIdx
open Cert.Proof.Plain (raw)

variable (m : (ℓ : Loc nD τ sig) → Buf (Elt Ideal) ℓ)

/-- The arguments on device `d`. -/
def inX (d : Dev nD) : FVec Ideal S4x4096x2048 .f32 := m (d, rf main_arg0)
def inA (d : Dev nD) : IVec S4x4096 32 := m (d, rf main_arg1)
def inW1 (d : Dev nD) : FVec Ideal S1024x2048 .f32 := m (d, rf main_arg2)
def inB1 (d : Dev nD) : FVec Ideal S1024 .f32 := m (d, rf main_arg3)
def inW2 (d : Dev nD) : FVec Ideal S1x1024 .f32 := m (d, rf main_arg4)
def inB2 (d : Dev nD) : FVec Ideal S1 .f32 := m (d, rf main_arg5)

/-- The score the TensorCore's call leaves for row `w`, position `q`. -/
def sco (d : Dev nD) (w : Fin 4) (q : Fin 4096) : EReal :=
  raw (inX m d) (inW1 m d) (inB1 m d) (inW2 m d) w q

theorem scoreBlk_apply (d : Dev nD) (t : Fin cfg0.N) (r : Fin 1024) (w : Fin 4) (q : Fin 4096) (h : 1024 * t.val + r.val = 4096 * w.val + q.val) :
    (scoreBlk (VA m) d t (ix3 0 0 r) : EReal) = sco m d w q := by
  refine (pay_apply _ _ _ _ r).trans ?_
  unfold sco raw
  refine Finset.sum_congr rfl fun k _ => ?_
  rw [blk2_apply, blk3_apply, VA_v1_row, VA_v2_row]
  have e : (∑ j : Fin 2048, (blk0 (VA m) d t (ix2 r j) : EReal) * (blk1 (VA m) d t (ix2 k j) : EReal))
      = ∑ j : Fin 2048, (inX m d (ix3 w q j) : EReal) * (inW1 m d (ix2 k j) : EReal) := by
    refine Finset.sum_congr rfl fun j _ => ?_
    rw [blk0_apply, blk1_apply, VA_v0_row, VA_arg2]
    have e1 : (⟨(1024 * t.val + r.val) / 4096, by have := lt16 t; omega⟩ : Fin 4) = w := Fin.ext (by show (1024 * t.val + r.val) / 4096 = w.val; omega)
    have e2 : (⟨(1024 * t.val + r.val) % 4096, Nat.mod_lt _ (by decide)⟩ : Fin 4096) = q := Fin.ext (by show (1024 * t.val + r.val) % 4096 = q.val; omega)
    rw [e1, e2]
    rfl
  rw [e]
  rfl

/-- The array the TensorCore's call leaves. -/
def scoreArr (d : Dev nD) : FVec Ideal S16x1x1024 .f32 := fun y => scoreBlk (VA m) d (y 0) (ix3 0 0 (y 2))

theorem after4 (d : Dev nD) (t : Fin cfg0.N) : (dat (VA m) d).after 4 t = scoreBlk (VA m) d t := by dsimp only [dat]

theorem emb4 (t : Fin cfg0.N) (y : S1x1x1024.Idx) : (win0_4.blk t).view.emb y = (ix3 ⟨t.val, lt16 t⟩ 0 (y 2) : S16x1x1024.Idx) := by
  have h0 : (y 0).val < 1 := (y 0).isLt
  have h1 : (y 1).val < 1 := (y 1).isLt
  blk_ext [idx4]

theorem VB_v3 (d : Dev nD) : VB m d (rf main_v3) = scoreArr m d := by
  unfold VB
  refine (Pipeline.afterRegion_arr (dat (VA m) d) (VA m d) winFacts0.arr_inj 4).trans ?_
  refine (dat (VA m) d).arrAt_eq_of_covers 4 _ (by decide +kernel) fun t hf y => ?_
  blk_simp
  rw [after4]
  have hy : (y : S1x1x1024.Idx) = ix3 0 0 ((y : S1x1x1024.Idx) 2) := by
    funext a
    match a with
    | ⟨0, _⟩ => exact Fin.ext (Nat.lt_one_iff.mp ((y : S1x1x1024.Idx) 0).isLt)
    | ⟨1, _⟩ => exact Fin.ext (Nat.lt_one_iff.mp ((y : S1x1x1024.Idx) 1).isLt)
    | ⟨2, _⟩ => rfl
  exact (congrArg (scoreBlk (VA m) d t) hy).trans (congrArg (scoreArr m d) (emb4 t y)).symm

/-- The scores as the SparseCores find them. -/
theorem scA_apply (d : Dev nD) (w : Fin 4) (q : Fin 4096) (n : Fin 16384) (hn : n.val = 4096 * w.val + q.val) : (scA m d (ix1 n) : EReal) = sco m d w q := by
  have e : scA m d (ix1 n) = scoreArr m d (ix3 ⟨n.val / 1024, by omega⟩ 0 ⟨n.val % 1024, Nat.mod_lt _ (by decide)⟩) := by
    unfold scA VC
    rw [StableHlo.result_of_writes_ne op9 _ main_v7 main_v6 rfl (by decide)]
    have e8 : (op8.result (op7.result (op6.result (VB m d))) (rf main_v6) : FVec Ideal S16384 .f32)
        = shapeCast S16384 (shapeCast S4x4096 (shapeCast S16384 (scoreArr m d) shapeCasts_S16x1x1024_S16384) shapeCasts_S16384_S4x4096) shapeCasts_S4x4096_S16384 := by
      refine (StableHlo.reshape_result ..).trans ?_
      have e7 : (op7.result (op6.result (VB m d)) (rf main_v5) : FVec Ideal S4x4096 .f32)
          = shapeCast S4x4096 (shapeCast S16384 (scoreArr m d) shapeCasts_S16x1x1024_S16384) shapeCasts_S16384_S4x4096 := by
        refine (StableHlo.reshape_result ..).trans ?_
        have e6 : (op6.result (VB m d) (rf main_v4) : FVec Ideal S16384 .f32) = shapeCast S16384 (scoreArr m d) shapeCasts_S16x1x1024_S16384 := by
          refine (StableHlo.reshape_result ..).trans ?_
          rw [VB_v3]
          rfl
        rw [e6]
        rfl
      rw [e7]
      rfl
    rw [e8]
    generalize scoreArr m d = X
    pointwise
    rfl
  rw [e]
  exact scoreBlk_apply m d _ _ w q (by show 1024 * (n.val / 1024) + n.val % 1024 = _; omega)

/-- The attention mask as the SparseCores find it. -/
theorem mkA_apply (d : Dev nD) (w : Fin 4) (q : Fin 4096) (n : Fin 16384) (hn : n.val = 4096 * w.val + q.val) : mkA m d (ix1 n) = inA m d (ix2 w q) := by
  have e : (mkA m d : IVec S16384 32) = shapeCast S16384 (inA m d) shapeCasts_S4x4096_S16384 := by
    unfold mkA VC
    refine (StableHlo.reshape_result ..).trans ?_
    rw [StableHlo.result_of_writes_ne op8 _ main_v6 main_arg1 rfl (by decide), StableHlo.result_of_writes_ne op7 _ main_v5 main_arg1 rfl (by decide),
      StableHlo.result_of_writes_ne op6 _ main_v4 main_arg1 rfl (by decide), VB_keep m d main_arg1 (by decide), VA_keep m d main_arg1 (by decide)]
    rfl
  have e1 : ∀ X : IVec S4x4096 32, shapeCast S16384 X shapeCasts_S4x4096_S16384 (ix1 n) = X (ix2 w q) := by
    intro X
    have h1 : (⟨n.val / 4096, by omega⟩ : Fin 4) = w := Fin.ext (by show n.val / 4096 = w.val; omega)
    have h2 : (⟨n.val % 4096, Nat.mod_lt _ (by decide)⟩ : Fin 4096) = q := Fin.ext (by show n.val % 4096 = q.val; omega)
    have e2 : shapeCast S16384 X shapeCasts_S4x4096_S16384 (ix1 n) = X (ix2 ⟨n.val / 4096, by omega⟩ ⟨n.val % 4096, Nat.mod_lt _ (by decide)⟩) := by
      pointwise
      rfl
    rw [e2, h1, h2]
  rw [e, e1]

/-- The kernel's result. -/
theorem VE_apply (d : Dev nD) (w : Fin 4) (q : Fin 4096) : (VE m d (rf main_v9) : IVec S4x4096 32) (ix2 w q)
    = rowOut (F := Ideal) (rowAt (mkA m d) w.val) (rowAt (scA m d) w.val) (at1 q) := by
  have e : (VE m d (rf main_v9) : IVec S4x4096 32) = shapeCast S4x4096 (outBuf (scA m d) (mkA m d) : IVec S16384 32) shapeCasts_S16384_S4x4096 := by
    unfold VE
    refine (StableHlo.reshape_result ..).trans ?_
    have e' : VD m d (rf main_v8) = outBuf (scA m d) (mkA m d) := Function.update_self _ _ _
    rw [e']
    rfl
  rw [e]
  have e1 : ∀ X : IVec S16384 32, shapeCast S4x4096 X shapeCasts_S16384_S4x4096 (ix2 w q) = X (ix1 ⟨4096 * w.val + q.val, by omega⟩) := by
    intro X
    pointwise
    refine congrArg (fun n : Fin 16384 => X (ix1 n)) (Fin.ext ?_)
    show w.val * 4096 + q.val = 4096 * w.val + q.val
    omega
  rw [e1]
  unfold outBuf
  have h1 : (4096 * w.val + q.val) / 4096 = w.val := by omega
  have h2 : (4096 * w.val + q.val) % 4096 = q.val := by omega
  show rowOut (F := Ideal) (rowAt (mkA m d) ((4096 * w.val + q.val) / 4096)) (rowAt (scA m d) ((4096 * w.val + q.val) / 4096)) (at1 ⟨(4096 * w.val + q.val) % 4096, _⟩) = _
  rw [h1]
  exact congrArg (fun n : Fin 4096 => rowOut (F := Ideal) (rowAt (mkA m d) w.val) (rowAt (scA m d) w.val) (at1 n)) (Fin.ext h2)

end Cert.Proof.Select
-- ==== Proof.Inputs.lean ====
/-
  What the precondition says of the inputs: the mask is nowhere zero, and every float is a real number; so every score is one.
-/
module

public import proofs.«01_k».proof.Defs
public import proofs.«01_k».proof.Proof.Scores
public import Idealize.ShloMosaic.Lib.ReduceAll

@[expose] public section

noncomputable section

namespace Cert.Proof.Inputs

open Idealize.ShloMosaic hiding ix0 ix1 ix2 ix3 eq_ix1 eq_ix2 eq_ix3
open ValueIdx
open Cert.Pre_finite_inputs_full_mask

/-- The side conditions of the precondition's operations. -/
instance facts : Cert.Pre_finite_inputs_full_mask.Facts where
  bcast_S_S4x4096 := by decide
  reducesTo_S4x4096_S_d0_1 := by decide
  h_S_ := by decide
  bcast_S_S4x4096x2048 := by decide
  reducesTo_S4x4096x2048_S_d0_1_2 := by decide
  bcast_S_S1024x2048 := by decide
  reducesTo_S1024x2048_S_d0_1 := by decide
  bcast_S_S1024 := by decide
  reducesTo_S1024_S_d0 := by decide
  bcast_S_S1x1024 := by decide
  reducesTo_S1x1024_S_d0_1 := by decide
  bcast_S_S1 := by decide
  reducesTo_S1_S_d0 := by decide

/-- An extended real that is a real number. -/
def IsReal (e : EReal) : Prop := ∃ r : ℝ, e = (r : EReal)

theorem IsReal.ne_bot {e : EReal} (h : IsReal e) : e ≠ ⊥ := by obtain ⟨r, rfl⟩ := h; exact EReal.coe_ne_bot r

theorem IsReal.add {a b : EReal} (ha : IsReal a) (hb : IsReal b) : IsReal (a + b) := by
  obtain ⟨r, rfl⟩ := ha; obtain ⟨t, rfl⟩ := hb; exact ⟨r + t, (EReal.coe_add r t).symm⟩

theorem IsReal.mul {a b : EReal} (ha : IsReal a) (hb : IsReal b) : IsReal (a * b) := by
  obtain ⟨r, rfl⟩ := ha; obtain ⟨t, rfl⟩ := hb; exact ⟨r * t, (EReal.coe_mul r t).symm⟩

theorem IsReal.zero : IsReal 0 := ⟨0, EReal.coe_zero.symm⟩

theorem IsReal.max {a b : EReal} (ha : IsReal a) (hb : IsReal b) : IsReal (Max.max a b) := by
  rcases le_total a b with h | h
  · rw [max_eq_right h]; exact hb
  · rw [max_eq_left h]; exact ha

theorem IsReal.sum {ι : Type} (t : Finset ι) (f : ι → EReal) (h : ∀ i, IsReal (f i)) : IsReal (∑ i ∈ t, f i) := by
  classical
  induction t using Finset.induction_on with
  | empty => rw [Finset.sum_empty]; exact IsReal.zero
  | insert a t ha ih => rw [Finset.sum_insert ha]; exact (h a).add ih

theorem top_eq : Ideal.ofBits .f32 0x7F800000#32 = (⊤ : EReal) := by simp [Ideal.ofBits, Ideal.ieee]

/-- An extended real whose absolute value is below infinity is a real number. -/
theorem isReal_of_abs (x : Ideal .f32) (h : FloatOps.cmpf (F := Ideal) (φ := .f32) .olt (FloatOps.hostAbsf x) (FloatOps.ofBits .f32 0x7F800000#32) = 1#1) :
    IsReal (x : EReal) := by
  have h' : BitVec.ofBool (decide (Max.max (x : EReal) (-(x : EReal)) < Ideal.ofBits .f32 0x7F800000#32)) = 1#1 := h
  rw [top_eq] at h'
  have h2 : Max.max (x : EReal) (-(x : EReal)) < ⊤ := by
    by_contra hc
    rw [decide_eq_false hc] at h'
    exact absurd h' (by decide)
  have ht : (x : EReal) ≠ ⊤ := fun e => by rw [e] at h2; exact absurd h2 (by simp)
  have hb : (x : EReal) ≠ ⊥ := fun e => by rw [e] at h2; exact absurd h2 (by simp)
  exact ⟨(x : EReal).toReal, (EReal.coe_toReal ht hb).symm⟩

instance : Subsingleton S_.Idx := ⟨fun a b => funext fun i => i.elim0⟩

theorem andi_at (x y : IVec S_ 1) (j : S_.Idx) (h : andi x y j = 1#1) : x j = 1#1 ∧ y j = 1#1 := IntOp.andi_eq_one.1 h

section
variable (X : FVec Ideal S4x4096x2048 .f32) (a : IVec S4x4096 32) (W1 : FVec Ideal S1024x2048 .f32) (b1 : FVec Ideal S1024 .f32)
  (W2 : FVec Ideal S1x1024 .f32) (b2 : FVec Ideal S1 .f32)

theorem read (h : Cert.Pre_finite_inputs_full_mask.fn (F := Ideal) X a W1 b1 W2 b2 = fun _ => 1#1) :
    (∀ i, a i ≠ 0#32) ∧ (∀ i, IsReal (X i : EReal)) ∧ (∀ i, IsReal (W1 i : EReal)) ∧ (∀ i, IsReal (b1 i : EReal)) ∧ (∀ i, IsReal (W2 i : EReal)) ∧ ∀ i, IsReal (b2 i : EReal) := by
  have j : S_.Idx := fun i => i.elim0
  have h1 := congrFun h j
  unfold fn fn_part1 at h1
  dsimp only at h1
  obtain ⟨h1, e5⟩ := andi_at _ _ _ h1
  obtain ⟨h1, e4⟩ := andi_at _ _ _ h1
  obtain ⟨h1, e3⟩ := andi_at _ _ _ h1
  obtain ⟨h1, e2⟩ := andi_at _ _ _ h1
  obtain ⟨e1, e0⟩ := andi_at _ _ _ h1
  refine ⟨fun i e => ?_, fun i => isReal_of_abs _ (Host.reduce_andi_all _ _ _ _ j e0 i), fun i => isReal_of_abs _ (Host.reduce_andi_all _ _ _ _ j e2 i),
    fun i => isReal_of_abs _ (Host.reduce_andi_all _ _ _ _ j e3 i), fun i => isReal_of_abs _ (Host.reduce_andi_all _ _ _ _ j e4 i),
    fun i => isReal_of_abs _ (Host.reduce_andi_all _ _ _ _ j e5 i)⟩
  have h2 : IntOp.cmpi .ne (a i) 0#32 = 1#1 := Host.reduce_andi_all _ _ _ _ j e1 i
  rw [e] at h2
  exact absurd h2 (by decide)

/-- Of real inputs the score is a real number. -/
theorem raw_real (hX : ∀ i, IsReal (X i : EReal)) (hW1 : ∀ i, IsReal (W1 i : EReal)) (hb1 : ∀ i, IsReal (b1 i : EReal)) (hW2 : ∀ i, IsReal (W2 i : EReal))
    (w : Fin 4) (q : Fin 4096) : IsReal (Cert.Proof.Plain.raw X W1 b1 W2 w q) := by
  unfold Cert.Proof.Plain.raw
  exact IsReal.sum _ _ fun k => IsReal.mul (IsReal.max (IsReal.add (IsReal.sum _ _ fun j => (hX _).mul (hW1 _)) (hb1 _)) IsReal.zero) (hW2 _)
end

end Cert.Proof.Inputs

end
-- ==== Proof.Equal.lean ====
/-
  The two results are equal: a row's marks of the kernel are the row's marks of the reference, when every score is a real number.
-/
module

public import proofs.«01_k».proof.Proof.Values
public import proofs.«01_k».proof.Proof.Ends
public import proofs.«01_k».proof.Proof.Inputs

@[expose] public section

set_option maxRecDepth 16384

noncomputable section

namespace Cert.Proof.Select

open Cert.KernelIdeal Cert.KernelIdeal.Gen
open Idealize.ShloMosaic hiding ix0 ix1 ix2 ix3 eq_ix1 eq_ix2 eq_ix3
open Idealize.ShloMosaic.TcCoe
open Idealize.ShloMosaic.ValueIdx
open Idealize.SL.Sem
open Cert.Proof.Inputs (IsReal)

section Row
variable (a : Vec Ideal S4096 .i32) (s : Vec Ideal S4096 .f32) (x : Fin 4096 → EReal)

/-- The positions the kernel's selections take in a row with no masked position and real scores, in their order. -/
theorem row_picks (ha : ∀ q, a (at1 q) ≠ 0#32) (hs : ∀ q, (s (at1 q) : EReal) = x q) (hx : ∀ q, x q ≠ ⊥) :
    ∃ σ : Fin 64 → Fin 4096, Function.Injective σ ∧ (∀ i j, i < j → Before x (σ i) (σ j)) ∧ (∀ i q, (∀ j, σ j ≠ q) → Before x (σ i) q)
      ∧ ∀ q, (val ((st0 a s).run 64).s q : EReal) = ⊥ ↔ ∃ n, σ n = q := by
  have hp : ∀ n, ∃ p : Fin 4096, (∀ q, val ((st0 a s).run n).s q ≤ val ((st0 a s).run n).s p)
      ∧ (∀ q < p, val ((st0 a s).run n).s q ≠ val ((st0 a s).run n).s p)
      ∧ ∀ q, val ((st0 a s).run (n + 1)).s q = if q = p then (⊥ : EReal) else val ((st0 a s).run n).s q := fun n => by
    rw [St.run_succ]
    exact (step_spec _ (run_inv _ (inv0 a s) n)).2.2
  choose p hmax hfirst hstep using hp
  set S : ℕ → Fin 4096 → EReal := fun n q => val ((st0 a s).run n).s q with hS
  have h0 : S 0 = x := by
    funext q
    have e : S 0 q = if a (at1 q) ≠ 0#32 then (s (at1 q) : EReal) else neg Ideal := rfl
    rw [e, if_pos (ha q), hs]
  have hb : ∀ q, S 0 q ≠ ⊥ := fun q => by rw [h0]; exact hx q
  have hnew := pick_new S p hmax hstep hb
  have hbefore := pick_before S p hmax hfirst hstep hb
  rw [h0] at hbefore
  have hne : ∀ i j : Fin 64, i < j → p i.val ≠ p j.val := fun i j h => hnew j.val (by omega) i.val h
  refine ⟨fun n => p n.val, fun i j e => ?_, fun i j h => ?_, fun i q hq => ?_, fun q => ?_⟩
  · rcases lt_trichotomy i j with h | h | h
    · exact absurd e (hne i j h)
    · exact h
    · exact absurd e.symm (hne j i h)
  · refine hbefore i.val (by omega) (p j.val) fun k hk => ?_
    exact hnew j.val (by omega) k (lt_of_le_of_lt hk h)
  · exact hbefore i.val (by omega) q fun k hk => hq ⟨k, by omega⟩
  · refine (pick_bot S p hmax hstep hb 64 q).trans ⟨fun ⟨k, hk, e⟩ => ⟨⟨k, hk⟩, e⟩, fun ⟨n, e⟩ => ⟨n.val, n.isLt, e⟩⟩

theorem outO_apply (z : Vec Ideal S4096 .f32) (q : Fin 4096) : outO (F := Ideal) z (at1 q) = if q.val = 0 ∨ (val z q : EReal) = ⊥ then 1#32 else 0#32 := by
  have e : outO (F := Ideal) z (at1 q) = if q.val = 0 then 1#32 else if FloatOps.cmpf (F := Ideal) (φ := .f32) .oeq (z (at1 q)) (neg Ideal) = 1#1 then 1#32 else 0#32 := rfl
  have e' : FloatOps.cmpf (F := Ideal) (φ := .f32) .oeq (z (at1 q)) (neg Ideal) = BitVec.ofBool (decide ((val z q : EReal) = (neg Ideal : EReal))) := rfl
  rw [e, e', neg_eq]
  by_cases h : q.val = 0
  · rw [if_pos h, if_pos (Or.inl h)]
  · rw [if_neg h]
    by_cases h' : (val z q : EReal) = ⊥
    · rw [if_pos (Or.inr h'), if_pos (by rw [decide_eq_true h']; rfl)]
    · rw [if_neg (c := q.val = 0 ∨ (val z q : EReal) = ⊥) (by rintro (c | c); exacts [h c, h' c]), decide_eq_false h']
      rfl

/-- What a tile writes at a position. -/
theorem rowOut_apply (q : Fin 4096) : rowOut (F := Ideal) a s (at1 q) = if q.val = 0 ∨ (val ((st0 a s).run 64).s q : EReal) = ⊥ then 1#32 else 0#32 := by
  unfold rowOut
  exact outO_apply _ q
end Row

/-- Adding one real number to every entry of a row of real numbers keeps the order. -/
theorem before_add (x : Fin 4096 → EReal) (b : EReal) (hx : ∀ q, IsReal (x q)) (hb : IsReal b) (i j : Fin 4096) (h : Before x i j) :
    Before (fun q => x q + b) i j := by
  obtain ⟨r, hr⟩ := hx i
  obtain ⟨t, ht⟩ := hx j
  obtain ⟨c, rfl⟩ := hb
  rcases h with h | ⟨h, h'⟩
  · refine Or.inl ?_
    show x j + (c : EReal) < x i + (c : EReal)
    rw [hr, ht] at h ⊢
    rw [← EReal.coe_add, ← EReal.coe_add, EReal.coe_lt_coe_iff]
    have := EReal.coe_lt_coe_iff.1 h
    linarith
  · refine Or.inr ⟨?_, h'⟩
    show x i + (c : EReal) = x j + (c : EReal)
    rw [h]

variable (m : (ℓ : Loc nD τ sig) → Buf (Elt Ideal) ℓ)

theorem result_eq (d : Dev nD) (h : Cert.Pre_finite_inputs_full_mask.fn (F := Ideal) (inX m d) (inA m d) (inW1 m d) (inB1 m d) (inW2 m d) (inB2 m d) = fun _ => 1#1) :
    (VE m d (rf main_v9) : IVec S4x4096 32)
      = Cert.Proof.Plain.maskOf (Host.topK Cert.ReferenceIdeal.S4x64 1 (FloatOps.cmpfTotal (F := Ideal) (φ := .f32) .gt)
          (Cert.Proof.Plain.scores (inX m d) (inA m d) (inW1 m d) (inB1 m d) (inW2 m d) (inB2 m d)) Cert.ReferenceIdeal.Gen.sliceFits_S4x4096_S4x64).2 := by
  obtain ⟨hA, hX, hW1, hB1, hW2, hB2⟩ := Cert.Proof.Inputs.read _ _ _ _ _ _ h
  have hreal : ∀ w q, IsReal (sco m d w q) := fun w q => Cert.Proof.Inputs.raw_real _ _ _ _ hX hW1 hB1 hW2 w q
  have hrow := fun w : Fin 4 => row_picks (rowAt (mkA m d) w.val) (rowAt (scA m d) w.val) (sco m d w)
    (fun q => by
      have e : rowAt (mkA m d) w.val (at1 q) = inA m d (ix2 w q) := mkA_apply m d w q _ (by show (4096 * w.val + q.val) % 16384 = _; omega)
      rw [e]; exact hA _)
    (fun q => scA_apply m d w q _ (by show (4096 * w.val + q.val) % 16384 = _; omega))
    (fun q => (hreal w q).ne_bot)
  choose σ hinj hord hdom hbot using hrow
  have hsc : ∀ w, (fun q => (Cert.Proof.Plain.scores (inX m d) (inA m d) (inW1 m d) (inB1 m d) (inW2 m d) (inB2 m d) (ix2 w q) : EReal))
      = fun q => sco m d w q + (inB2 m d (ix1 0) : EReal) := fun w => by
    funext q
    exact Cert.Proof.Plain.scores_apply _ _ _ _ _ _ w q (hA _)
  funext y
  obtain ⟨w, q, rfl⟩ : ∃ (w : Fin 4) (q : Fin 4096), y = ix2 w q := ⟨_, _, eq_ix2 y⟩
  classical
  rw [VE_apply, rowOut_apply]
  refine Eq.trans ?_ (Cert.Proof.Plain.maskOf_apply _ σ (fun w n => Cert.Proof.Plain.topK_index _ w (σ w) (hinj w) (fun i j hij => ?_) (fun i q hq => ?_) _ n) w q).symm
  · simp only [hbot w q]
  · rw [hsc w]; exact before_add _ _ (hreal w) (hB2 _) _ _ (hord w i j hij)
  · rw [hsc w]; exact before_add _ _ (hreal w) (hB2 _) _ _ (hdom w i q hq)

end Cert.Proof.Select

end
-- ==== Proof.lean ====
module

public import proofs.«01_k».proof.Defs
public import proofs.«01_k».proof.Proof.Ends
public import proofs.«01_k».proof.Proof.Equal

@[expose] public section

open Idealize.ShloMosaic Idealize.ShloMosaic.TcCoe Idealize.SL.Sem

/-- Of finite inputs and a mask that is nowhere zero both programs end with the same mask. -/
theorem Cert.Proof.same : Cert.algebraic_KernelIdeal_ReferenceIdeal_pre_finite_inputs_full_mask := by
  intro m g m' g' hpre hargs
  refine ⟨fun c => Cert.Proof.Select.VE m c (Cert.Proof.Select.rf Cert.KernelIdeal.main_v9), ?_, ?_⟩
  · exact (θ_run _ _ _).mono (fun _ h => h.1) (Cert.Proof.Select.run_ends m g (Cert.Proof.Select.okAll m))
  · refine (θ_run _ _ _).mono (fun r h c => ?_) (Cert.ReferenceIdeal.Value.run (F := Ideal) m' g')
    obtain ⟨h0, hrest⟩ := h c
    obtain ⟨e0, e1, e2, e3, e4, e5⟩ := hargs c
    refine ⟨h0.trans ((Cert.Proof.Plain.out_eq m' c).trans ?_), hrest⟩
    rw [e0, e1, e2, e3, e4, e5]
    exact (Cert.Proof.Select.result_eq m c (hpre c)).symm

/-- Both programs run, leave their arguments as they were and end with every counter at zero; and their results are equal. -/
theorem Cert.Proof.claim : Cert.Claim :=
  ⟨Cert.KernelIdeal.Gen.facts, Cert.ReferenceIdeal.Gen.facts, Cert.Proof.Inputs.facts,
    fun m ρ _ => Cert.Proof.Select.frameK m ρ, fun m ρ _ => Cert.Proof.Select.frameK m ρ,
    fun m ρ _ => Cert.Proof.Plain.frameR m ρ, fun m ρ _ => Cert.Proof.Plain.frameR m ρ, Cert.Proof.same⟩
